-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 128]⟩ ⟨2, ![256, 256]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 128]⟩ ⟨2, ![256, 256]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S1x128 : Shape := ⟨2, ![1, 128]⟩
abbrev S128x1 : Shape := ⟨2, ![128, 1]⟩
abbrev S2 : Shape := ⟨1, ![2]⟩
abbrev S_ : Shape := ⟨0, ![]⟩
abbrev S1 : Shape := ⟨1, ![1]⟩
abbrev S127x128 : Shape := ⟨2, ![127, 128]⟩
abbrev S128x127 : Shape := ⟨2, ![128, 127]⟩

abbrev nBuf : Space → Nat
  | .hbm => 2
  | .vmem => 6
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x1, .f32⟩
  | .local _ .vmem, ⟨5, _⟩ => ⟨S128x1, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v29 : BitVec 32 := Scalar.muli v6 c2_i32_22
  let v30 : BitVec 32 := Scalar.addi c0_i32_23 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v31 : BitVec 32 := Scalar.muli v5 c1_i32_24
  let v32 : BitVec 32 := Scalar.addi v30 v31
  v32.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v37 : BitVec 32 := Scalar.muli v2 c2_i32_27
  let v38 : BitVec 32 := Scalar.addi c0_i32_28 v37
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_29 : BitVec 32 := 1#32
  let v39 : BitVec 32 := Scalar.muli v7 c1_i32_29
  let v40 : BitVec 32 := Scalar.addi v38 v39
  v40.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x256 : Shape := ⟨2, ![256, 256]⟩
abbrev S254x254 : Shape := ⟨2, ![254, 254]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S254x254, .f32⟩
  | .hbm, ⟨2, _⟩ => ⟨S_, .f32⟩
  | .hbm, ⟨3, _⟩ => ⟨S254x254, .f32⟩
  | .hbm, ⟨4, _⟩ => ⟨S254x254, .f32⟩
  | .hbm, ⟨5, _⟩ => ⟨S254x254, .f32⟩
  | .hbm, ⟨6, _⟩ => ⟨S_, .f32⟩
  | .hbm, ⟨7, _⟩ => ⟨S254x254, .f32⟩
  | .hbm, ⟨8, _⟩ => ⟨S254x254, .f32⟩
  | .hbm, ⟨9, _⟩ => ⟨S254x254, .f32⟩
  | .hbm, ⟨10, _⟩ => ⟨S254x254, .f32⟩
  | .hbm, ⟨11, _⟩ => ⟨S_, .f32⟩
  | .hbm, ⟨12, _⟩ => ⟨S254x254, .f32⟩
  | .hbm, ⟨13, _⟩ => ⟨S254x254, .f32⟩
  | .hbm, ⟨14, _⟩ => ⟨S254x254, .f32⟩
  | .hbm, ⟨15, _⟩ => ⟨S254x254, .f32⟩
  | .hbm, ⟨16, _⟩ => ⟨S_, .f32⟩
  | .hbm, ⟨17, _⟩ => ⟨S254x254, .f32⟩
  | .hbm, ⟨18, _⟩ => ⟨S254x254, .f32⟩
  | .hbm, ⟨19, _⟩ => ⟨S254x254, .f32⟩
  | .hbm, ⟨20, _⟩ => ⟨S254x254, .f32⟩
  | .hbm, ⟨21, _⟩ => ⟨S_, .f32⟩
  | .hbm, ⟨22, _⟩ => ⟨S254x254, .f32⟩
  | .hbm, ⟨23, _⟩ => ⟨S254x254, .f32⟩
  | .hbm, ⟨24, _⟩ => ⟨S254x254, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Protocol.lean ====
/-
# The halo exchange: devices, buffers, cells, and who owes whom what

The four devices form a 2 × 2 mesh, device `2 i + j` at place `(i, j)`. Each device exchanges one edge of its block with
each of two neighbours: the ROW exchange (axis `false`) is with the device above or below, the COLUMN exchange (axis `true`)
with the device to the side. Per device there are five semaphore cells: the runtime's barrier cell, and per axis the cell
that says that its own edge has left and the cell that says that the neighbour's edge has arrived.

* the barrier cell has one duty per axis, paid by the neighbour along that axis with one unit: the neighbour hands over its
  landing buffer of that axis, so a device may write there only after its owner has said so;
* the "left" cell of an axis is paid by the device's own transfer, which hands the send buffer back;
* the "arrived" cell of an axis is paid by the neighbour's transfer, which hands over the landing buffer holding the
  neighbour's edge.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own copy of the rounds' state, and this protocol's, whose duties are told apart by an axis. -/
abbrev Gh : Type := UR sig nD τ × URounds (GSem nD τ sig) Bool

local notation "𝕄" => MT nD τ sig Unit (Elt F) ℕ Gh ℕ

abbrev EP : Emb (UR sig nD τ) (MT nD τ sig Unit (Elt F) ℕ Gh ℕ) := embL
abbrev EX : Emb (URounds (GSem nD τ sig) Bool) (MT nD τ sig Unit (Elt F) ℕ Gh ℕ) := embR

/-! ## Places and neighbours -/

/-- Whether device `c` is in the second row of the mesh. -/
def low (c : Dev nD) : Bool := decide (2 ≤ c.val)
/-- Whether device `c` is in the second column of the mesh. -/
def right (c : Dev nD) : Bool := decide (c.val % 2 = 1)

/-- The neighbour of `c` along an axis. -/
def nb (a : Bool) (c : Dev nD) : Dev nD :=
  if a then ⟨(2 * (c.val / 2) + 1) - c.val % 2, by have := c.isLt; simp only [nD] at this ⊢; omega⟩
  else ⟨(c.val % 2 + 2) - 2 * (c.val / 2), by have := c.isLt; simp only [nD] at this ⊢; omega⟩

/-- The neighbour's neighbour along an axis is the device itself. -/
theorem nb_nb (a : Bool) (c : Dev nD) : nb a (nb a c) = c := by revert a c; decide
/-- One device is another's neighbour exactly when the other is its neighbour. -/
theorem nb_inj {a : Bool} {c d : Dev nD} : nb a c = d ↔ c = nb a d :=
  ⟨fun h => by rw [← h, nb_nb], fun h => by rw [h, nb_nb]⟩
/-- The row neighbour is in the other row of the mesh. -/
theorem low_nb (c : Dev nD) : low (nb false c) = !low c := by revert c; decide
/-- The column neighbour is in the other column of the mesh. -/
theorem right_nb (c : Dev nD) : right (nb true c) = !right c := by revert c; decide

/-- Of the devices that the kernel computes, the first signal's is the row neighbour; -/
theorem dev1_nb (c : Dev nD) : (⟨k0_dev1 c, k0_dev1_lt c⟩ : Dev nD) = nb false c := Fin.ext (k0_dev1_eq c)
/-- the second signal goes to the column neighbour, -/
theorem dev2_nb (c : Dev nD) : (⟨k0_dev2 c, k0_dev2_lt c⟩ : Dev nD) = nb true c := Fin.ext (k0_dev2_eq c)
/-- the first transfer to the row neighbour -/
theorem dev3_nb (c : Dev nD) : (⟨k0_dev3 c, k0_dev3_lt c⟩ : Dev nD) = nb false c := Fin.ext (k0_dev3_eq c)
/-- and the second transfer to the column neighbour. -/
theorem dev4_nb (c : Dev nD) : (⟨k0_dev4 c, k0_dev4_lt c⟩ : Dev nD) = nb true c := Fin.ext (k0_dev4_eq c)

/-- A place along one axis as the 32-bit word that the kernel computes with. -/
def wd : Bool → BitVec 32 | false => 0#32 | true => 1#32
/-- The word that the kernel computes for its row of the mesh is the word of the device's row, -/
theorem word_low (c : Dev nD) : Scalar.remsi (Scalar.divsi (Dev.word c) 2#32) 2#32 = wd (low c) := by revert c; decide
/-- and the one for its column that of its column. -/
theorem word_right (c : Dev nD) : Scalar.remsi (Scalar.divsi (Dev.word c) 1#32) 2#32 = wd (right c) := by revert c; decide

/-! ## Buffers and cells -/

/-- The buffer an axis' edge is sent from, and the one an axis' edge lands in. -/
abbrev sndB : Bool → Ref sig .tc | false => cc0_scratch0 | true => cc0_scratch2
abbrev rcvB : Bool → Ref sig .tc | false => cc0_scratch1 | true => cc0_scratch3

/-- The barrier semaphore, and an axis' "left" and "arrived" semaphores. -/
abbrev barS : Sem sig := barrier0
abbrev sndS : Bool → DmaSem sig | false => ⟨2, by decide⟩ | true => ⟨3, by decide⟩
abbrev rcvS : Bool → DmaSem sig | false => ⟨4, by decide⟩ | true => ⟨5, by decide⟩

/-- The kernel reaches its four transfer semaphores as elements of two arrays: the row's "left" semaphore is element 0 of the first, -/
theorem snd_row : ((cc0_scratch4.slice (Rect.unit (s := S2) ![0] ![1] inb_S2_S1_0)).squeeze S_ squeezes_S1_S_).sem = sndS false := rfl
/-- the column's "left" semaphore element 1 of the first array, -/
theorem snd_col : ((cc0_scratch4.slice (Rect.unit (s := S2) ![1] ![1] inb_S2_S1_1)).squeeze S_ squeezes_S1_S_).sem = sndS true := rfl
/-- the row's "arrived" semaphore element 0 of the second, -/
theorem rcv_row : ((cc0_scratch5.slice (Rect.unit (s := S2) ![0] ![1] inb_S2_S1_0)).squeeze S_ squeezes_S1_S_).sem = rcvS false := rfl
/-- the column's "arrived" semaphore element 1 of it. -/
theorem rcv_col : ((cc0_scratch5.slice (Rect.unit (s := S2) ![1] ![1] inb_S2_S1_1)).squeeze S_ squeezes_S1_S_).sem = rcvS true := rfl
/-- The barrier semaphore that the kernel reaches is the one named here. -/
theorem bar_sem : (SemArray.scalar (sig.barrier 0 rfl) : Sems sig S_).sem = barS := rfl

/-- A device's cells: the barrier's, and an axis' "left" and "arrived" ones. -/
abbrev barCell (c : Dev nD) : GSem nD τ sig := ((c : Thread nD τ), .reg barS)
abbrev sndCell (a : Bool) (c : Dev nD) : GSem nD τ sig := ((c : Thread nD τ), .dma (sndS a))
abbrev rcvCell (a : Bool) (c : Dev nD) : GSem nD τ sig := ((c : Thread nD τ), .dma (rcvS a))

/-- The four transfer semaphores, numbered: row left, column left, row arrived, column arrived. -/
abbrev own : Fin 4 → SemLoc sig := fun | 0 => .dma (sndS false) | 1 => .dma (sndS true) | 2 => .dma (rcvS false) | 3 => .dma (rcvS true)
/-- All five semaphores, numbered: the barrier, then the four. -/
abbrev five : Fin 5 → SemLoc sig := fun
  | 0 => .reg barS | 1 => .dma (sndS false) | 2 => .dma (sndS true) | 3 => .dma (rcvS false) | 4 => .dma (rcvS true)
/-- A device's cell by the semaphore's number. -/
abbrev cell (ck : Dev nD × Fin 5) : GSem nD τ sig := ((ck.1 : Thread nD τ), five ck.2)

/-- The five semaphores are different, -/
theorem five_inj : Function.Injective five := by decide
/-- and so are the twenty cells of the four devices. -/
theorem cell_inj : Function.Injective cell := fun x y h => by
  have h1 : x.1 = y.1 := congrArg (fun g : GSem nD τ sig => g.1.1) h
  have h2 : x.2 = y.2 := five_inj (congrArg Prod.snd h)
  exact Prod.ext h1 h2

/-- What one transfer of an axis counts. -/
abbrev credit (a : Bool) : ℕ := (Memref.whole (rcvB a)).view.dmaCredit
/-- A transfer counts something. -/
theorem credit_pos (a : Bool) : 0 < credit a := by cases a <;> exact View.dmaCredit_pos _ (by decide)

/-! ## Contents -/

variable (m : (ℓ : Loc nD τ sig) → Buf (Elt F) ℓ) (ρ : Dev nD → PrngReg)

/-- The memory the launch starts from. -/
def s₀ : MemSt nD τ sig (Elt F) := ⟨m, fun _ => 0, ρ⟩

/-- Device `c`'s block, as the launch stages it. -/
def blk (c : Dev nD) : Vec F S128x128 .f32 :=
  (win0_0.blk (0 : Fin 1)).view.read (Elt F) ((s₀ m ρ).mem ((c : Thread nD τ).loc main_arg0))

/-- Where the edge lies that a device at a place sends and the halo is added to: the last row or column at the first place, the first at the second. -/
abbrev edge : Bool → ℕ | false => 127 | true => 0
/-- The edge row lies in the block, -/
theorem edge_row (b : Bool) : ∀ k, (![edge b, 0] : Fin 2 → ℕ) k + S1x128.size k ≤ S128x128.size k := by cases b <;> decide
/-- and so does the edge column. -/
theorem edge_col (b : Bool) : ∀ k, (![0, edge b] : Fin 2 → ℕ) k + S128x1.size k ≤ S128x128.size k := by cases b <;> decide
/-- The edge row, and the edge column, as a part of the block. -/
abbrev rowR (b : Bool) : Rect S128x128 := Rect.unit (s := S128x128) ![edge b, 0] S1x128.size (edge_row b)
abbrev colR (b : Bool) : Rect S128x128 := Rect.unit (s := S128x128) ![0, edge b] S128x1.size (edge_col b)

/-- The staged block, and the output buffer. -/
abbrev xM : Memref sig .tc .vmem S128x128 .f32 := Memref.whole cc0_stg0_0
abbrev oM : Memref sig .tc .vmem S128x128 .f32 := Memref.whole cc0_stg1_0

/-- The row, and the column, that a device sends. -/
def sentRow (c : Dev nD) : FVec F S1x128 .f32 := k0_pay4 (xM.view.readAt (Elt F) (rowR (low c)).toLoadRect (blk m ρ c))
def sentCol (c : Dev nD) : FVec F S128x1 .f32 := k0_pay6 (xM.view.readAt (Elt F) (colR (right c)).toLoadRect (blk m ρ c))

/-- What lands in device `c`'s buffer of an axis: the neighbour's edge. -/
def landed : (a : Bool) → (c : Dev nD) → Buf (Elt F) ((c : Thread nD τ).loc (rcvB a))
  | false, c => sentRow m ρ (nb false c)
  | true, c => sentCol m ρ (nb true c)

/-- Device `c`'s send buffer, and its landing buffer, of an axis, whole, at contents `f`. -/
def sndPts (a : Bool) (c : Dev nD) (f : Buf (Elt F) ((c : Thread nD τ).loc (sndB a))) : sProp 𝕄 := ((c : Thread nD τ).loc (sndB a)) ↦{fullShare} f
def rcvPts (a : Bool) (c : Dev nD) (f : Buf (Elt F) ((c : Thread nD τ).loc (rcvB a))) : sProp 𝕄 := ((c : Thread nD τ).loc (rcvB a)) ↦{fullShare} f

omit [FloatOps F] in
instance sndPts_storable (a : Bool) (c : Dev nD) (f) : BI.Storable (upEmb : UEmb _ 𝕄) (sndPts (F := F) a c f) := by unfold sndPts; infer_instance
omit [FloatOps F] in
instance rcvPts_storable (a : Bool) (c : Dev nD) (f) : BI.Storable (upEmb : UEmb _ 𝕄) (rcvPts (F := F) a c f) := by unfold rcvPts; infer_instance

/-! ## The schedule -/

/-- What the neighbour along an axis hands `c` with its barrier signal: its landing buffer, and that its "arrived" cell is at round 0. -/
def leavePay (a : Bool) (c : Dev nD) : sProp 𝕄 := iprop((∃ f, rcvPts a (nb a c) f) ∗ reached EX (rcvCell a (nb a c)) 0)

/-- The axis a transfer semaphore belongs to: the odd ones are the columns'. -/
def axis (q : DmaSem sig) : Bool := decide (q.val % 2 = 1)

/-- What a duty of a cell of device `c` hands over when it is paid. -/
def pays (c : Dev nD) : SemLoc sig → Bool → sProp 𝕄
  | .reg _, a => leavePay a c
  | .dma q, _ => if 4 ≤ q.val then rcvPts (axis q) c (landed m ρ (axis q) c) else iprop(∃ f, sndPts (axis q) c f)

/-- Which duties a cell has. -/
def owedTo : SemLoc sig → Finset Bool
  | .reg _ => Finset.univ
  | .dma q => if 2 ≤ q.val then {false} else ∅

/-- How much a duty of a cell counts. -/
def worth : SemLoc sig → ℕ | .reg _ => 1 | .dma q => credit (axis q)

/-- The schedule: one round at every cell. -/
def sched : Rounds.Schedule (GSem nD τ sig) Bool 𝕄 where
  duties g r := if r = 0 then owedTo g.2 else ∅
  unitless _ := False
  amount g _ _ := worth g.2
  payload g _ a := pays m ρ g.1.1 g.2 a
  amount_pos g _ _ _ := by rcases g with ⟨_, q | q⟩; exacts [Nat.one_pos, credit_pos _]

instance sched_storable (g : GSem nD τ sig) (r : ℕ) (a : Bool) : BI.Storable (upEmb : UEmb _ 𝕄) ((sched (F := F) m ρ).payload g r a) := by
  rcases g with ⟨c, q | q⟩
  · show BI.Storable upEmb (leavePay a c.1)
    unfold leavePay; infer_instance
  · show BI.Storable upEmb (if 4 ≤ q.val then rcvPts (axis q) c.1 (landed m ρ (axis q) c.1) else iprop(∃ f, sndPts (axis q) c.1 f))
    split <;> infer_instance

/-- The axis of an axis' "left" semaphore is that axis, -/
theorem axis_snd (a : Bool) : axis (sndS a) = a := by cases a <;> decide
/-- and so is that of its "arrived" semaphore. -/
theorem axis_rcv (a : Bool) : axis (rcvS a) = a := by cases a <;> decide

/-- No cell has a duty after its first round. -/
theorem duties_later (g : GSem nD τ sig) : ∀ r, 1 ≤ r → (sched (F := F) m ρ).duties g r = ∅ :=
  fun r hr => if_neg (by omega)
/-- The barrier cell has a duty of each axis. -/
theorem mem_bar (a : Bool) (c : Dev nD) : a ∈ (sched (F := F) m ρ).duties (barCell c) 0 := Finset.mem_univ a
/-- A "left" cell has one duty, -/
theorem duties_snd (a : Bool) (c : Dev nD) : (sched (F := F) m ρ).duties (sndCell a c) 0 = {false} := by cases a <;> rfl
/-- and so has an "arrived" cell. -/
theorem duties_rcv (a : Bool) (c : Dev nD) : (sched (F := F) m ρ).duties (rcvCell a c) 0 = {false} := by cases a <;> rfl
/-- The duty of a "left" cell counts one transfer of its axis, -/
theorem amount_snd (a : Bool) (c : Dev nD) : (sched (F := F) m ρ).amount (sndCell a c) 0 false = credit a := by cases a <;> rfl
/-- and so does that of an "arrived" cell. -/
theorem amount_rcv (a : Bool) (c : Dev nD) : (sched (F := F) m ρ).amount (rcvCell a c) 0 false = credit a := by cases a <;> rfl

/-- A barrier cell expects two units in all, -/
theorem expect_bar (c : Dev nD) : (sched (F := F) m ρ).expect (barCell c) 0 = 2 := rfl
/-- a "left" cell one transfer, -/
theorem expect_snd (a : Bool) (c : Dev nD) : (sched (F := F) m ρ).expect (sndCell a c) 0 = credit a := by
  unfold Schedule.expect Schedule.amountOf; rw [duties_snd, Finset.sum_singleton, amount_snd]
/-- an "arrived" cell one transfer. -/
theorem expect_rcv (a : Bool) (c : Dev nD) : (sched (F := F) m ρ).expect (rcvCell a c) 0 = credit a := by
  unfold Schedule.expect Schedule.amountOf; rw [duties_rcv, Finset.sum_singleton, amount_rcv]

/-- A barrier duty hands over the neighbour's landing buffer of its axis, -/
theorem pay_bar (a : Bool) (c : Dev nD) : (sched (F := F) m ρ).payload (barCell c) 0 a = leavePay a c := rfl
/-- a "left" cell's the device's own send buffer, -/
theorem pay_snd (a : Bool) (c : Dev nD) : (sched (F := F) m ρ).payload (sndCell a c) 0 false = iprop(∃ f, sndPts a c f) := by cases a <;> rfl
/-- an "arrived" cell's the landing buffer at the neighbour's edge. -/
theorem pay_rcv (a : Bool) (c : Dev nD) : (sched (F := F) m ρ).payload (rcvCell a c) 0 false = rcvPts a c (landed m ρ a c) := by cases a <;> rfl

/-- A separating product over the two axes, written out. -/
theorem bigSep_bool (Φ : Bool → sProp 𝕄) : bigSep Finset.univ Φ = iprop(Φ false ∗ Φ true) :=
  bigSep_univ_eq_bigSepL [false, true] (by decide) (by decide) Φ

/-- What a whole round of each cell hands its owner. -/
theorem all_bar (c : Dev nD) : bigSep ((sched (F := F) m ρ).duties (barCell c) 0 \ ∅) (fun a => (sched (F := F) m ρ).payload (barCell c) 0 a)
    = iprop(leavePay false c ∗ leavePay true c) := by
  rw [Finset.sdiff_empty, show (sched (F := F) m ρ).duties (barCell c) 0 = Finset.univ from rfl, bigSep_bool]; rfl
/-- The "left" cell's round hands back the send buffer, -/
theorem all_snd (a : Bool) (c : Dev nD) : bigSep ((sched (F := F) m ρ).duties (sndCell a c) 0 \ ∅) (fun d => (sched (F := F) m ρ).payload (sndCell a c) 0 d)
    = iprop(∃ f, sndPts a c f) := by
  rw [Finset.sdiff_empty, duties_snd, bigSep_singleton, pay_snd]
/-- the "arrived" cell's the landing buffer at the neighbour's edge. -/
theorem all_rcv (a : Bool) (c : Dev nD) : bigSep ((sched (F := F) m ρ).duties (rcvCell a c) 0 \ ∅) (fun d => (sched (F := F) m ρ).payload (rcvCell a c) 0 d)
    = rcvPts a c (landed m ρ a c) := by
  rw [Finset.sdiff_empty, duties_rcv, bigSep_singleton, pay_rcv]

/-! ## Debts and levels -/

/-- What device `c` still owes: after both signals the two transfers (`O₂`), after the row's signal also the column's (`O₁`), at launch all four (`O₀`). -/
def O₂ (c : Dev nD) : CellTallies nD τ sig Unit := tallyAt (rcvCell true (nb true c)) () (credit true) + tallyAt (rcvCell false (nb false c)) () (credit false)
def O₁ (c : Dev nD) : CellTallies nD τ sig Unit := O₂ c + tallyAt (barCell (nb true c)) () 1
def O₀ (c : Dev nD) : CellTallies nD τ sig Unit := O₁ c + tallyAt (barCell (nb false c)) () 1

/-- The labels of a cell: one at each cell of a device's core, none elsewhere. -/
def L (g : GSem nD τ sig) : Finset Unit := if g.1.2 = .tc then {()} else ∅
/-- The order of waiting: the pipeline's transfers and the "left" cells before the barrier, the barrier before the "arrived" cells. -/
def rank : SemLoc sig → ℕ | .reg _ => 1 | .dma q => if 4 ≤ q.val then 2 else 0
/-- A cell's level is its semaphore's rank. -/
def lv (g : GSem nD τ sig) (_ : Unit) : ℕ := rank g.2
/-- The "arrived" cells rank highest. -/
theorem rank_rcv (a : Bool) : rank (.dma (rcvS a)) = 2 := by cases a <;> rfl
/-- No cell outside a device's core has a label. -/
theorem L_of_ne (g : GSem nD τ sig) (h : g.1.2 ≠ .tc) : L g = ∅ := if_neg h

/-- A tally at one cell counts nothing at another. -/
theorem of_tally {g₀ g : GSem nD τ sig} {n : ℕ} {u : Unit} (h : 0 < tallyAt g₀ () n g u) : g = g₀ := by
  rw [tallyAt_apply] at h; by_contra hn
  rw [if_neg fun e => hn e.1] at h; exact absurd h (Nat.lt_irrefl 0)

/-- After both signals a device owes only its neighbours' "arrived" cells. -/
theorem of_O₂ {c : Dev nD} {g : GSem nD τ sig} {u : Unit} (h : 0 < O₂ c g u) : ∃ a, g = rcvCell a (nb a c) := by
  unfold O₂ at h; rw [Pi.add_apply, Finsupp.add_apply] at h
  rcases Nat.add_pos_iff_pos_or_pos.1 h with h | h
  exacts [⟨true, of_tally h⟩, ⟨false, of_tally h⟩]
/-- At launch a device owes only its neighbours' "arrived" and barrier cells. -/
theorem of_O₀ {c : Dev nD} {g : GSem nD τ sig} {u : Unit} (h : 0 < O₀ c g u) : ∃ a, g = rcvCell a (nb a c) ∨ g = barCell (nb a c) := by
  unfold O₀ O₁ at h; simp only [Pi.add_apply, Finsupp.add_apply] at h
  rcases Nat.add_pos_iff_pos_or_pos.1 h with h | h
  · rcases Nat.add_pos_iff_pos_or_pos.1 h with h | h
    · obtain ⟨a, h⟩ := of_O₂ h; exact ⟨a, .inl h⟩
    · exact ⟨true, .inr (of_tally h)⟩
  · exact ⟨false, .inr (of_tally h)⟩

/-- A device may wait at a cell while all that it owes ranks above that cell. -/
theorem may_wait (c : Dev nD) (s : SemLoc sig) (O : CellTallies nD τ sig Unit) (h : ∀ g u, 0 < O g u → g.1.2 = .tc ∧ rank s < rank g.2) :
    (levAts L lv : sProp 𝕄) ⊢ MayWait (c : Thread nD τ) s () O :=
  MayOwe.of_cut (L := L) (lev := lv) (rank s) (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact le_rfl) (fun g u hg => (h g u hg).2)

/-- A device may wait at its barrier while it owes its two transfers. -/
theorem may_wait_bar (c : Dev nD) : (levAts L lv : sProp 𝕄) ⊢ MayWait (c : Thread nD τ) (.reg barS) () (O₂ c) :=
  may_wait c _ _ fun g u hg => by
    obtain ⟨a, rfl⟩ := of_O₂ hg
    exact ⟨rfl, by rw [rank_rcv]; exact Nat.one_lt_two⟩

/-- A device that owes nothing may wait anywhere. -/
theorem may_wait_none (c : Dev nD) (s : SemLoc sig) : (levAts L lv : sProp 𝕄) ⊢ MayWait (c : Thread nD τ) s () 0 :=
  may_wait c _ _ fun g u hg => absurd hg (Nat.lt_irrefl 0)

/-- A device may wait at a staging or a "left" semaphore at launch and at the end. -/
theorem may_wait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  have hr : rank (.dma q) = 0 := if_neg (Nat.not_le.2 hq)
  rcases hO with rfl | rfl
  · exact may_wait c _ _ fun g u hg => by
      rw [hr]
      obtain ⟨a, rfl | rfl⟩ := of_O₀ hg
      · exact ⟨rfl, by rw [rank_rcv]; exact Nat.two_pos⟩
      · exact ⟨rfl, Nat.one_pos⟩
  · exact may_wait_none c _

end Cert.KernelIdeal.Halo

end
-- ==== Proof.Body.lean ====
/-
# One device's run of the kernel body

From its starting resources (the records of every cell, its positions, its tokens, its credit, its buffers) the body runs to
its end with the output buffer at `outAt` and all five cells closed at zero.
-/
module

public import proofs.«01_k».proof.Proof.Protocol

@[expose] public section

set_option maxRecDepth 16384

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ Gh ℕ

variable (m : (ℓ : Loc nD τ sig) → Buf (Elt F) ℓ) (ρ : Dev nD → PrngReg)

/-- The loops' variants: there is no loop. -/
abbrev 𝒱₀ : Variants := Variants.none

/-- The four exchange buffers, each whole. -/
abbrev rowOut : Memref sig .tc .vmem S1x128 .f32 := Memref.whole cc0_scratch0
abbrev rowIn : Memref sig .tc .vmem S1x128 .f32 := Memref.whole cc0_scratch1
abbrev colOut : Memref sig .tc .vmem S128x1 .f32 := Memref.whole cc0_scratch2
abbrev colIn : Memref sig .tc .vmem S128x1 .f32 := Memref.whole cc0_scratch3

/-- A buffer sent from counts what its landing buffer counts. -/
theorem credit_row : credit false = rowOut.view.dmaCredit := rfl
/-- The same for the column. -/
theorem credit_col : credit true = colOut.view.dmaCredit := rfl

/-! ## What the output buffer holds -/

/-- The local step: the stencil over a device's own block with a halo of zeros, the global boundary kept, at place `(i, j)`. -/
def local1 (i j : Bool) (x : Vec F S128x128 .f32) : Vec F S128x128 .f32 :=
  k0_pay10 (wd i) (wd j) (k0_pay8 x) (k0_pay9 x) (iota .tc S128x128 32 [0] iota_S128x128_d0_w32) (iota .tc S128x128 32 [1] iota_S128x128_d1_w32)
    (Scalar.cmpi .eq (wd i) 0#32) 0#32
/-- The neighbour's row `r` added in at the edge row. -/
def addRow (i j : Bool) (y : Vec F S128x128 .f32) (r : Vec F S1x128 .f32) : Vec F S128x128 .f32 :=
  (oM.access (rowR i) : View sig .tc _ _ _).write (Elt F) y
    (k0_pay14 (k0_pay11 (wd j)) (k0_pay12 (wd j)) r (oM.view.readAt (Elt F) (rowR i).toLoadRect y)) Finset.univ
/-- The neighbour's column `k` added in at the edge column. -/
def addCol (i j : Bool) (y : Vec F S128x128 .f32) (k : Vec F S128x1 .f32) : Vec F S128x128 .f32 :=
  (oM.access (colR j) : View sig .tc _ _ _).write (Elt F) y
    (k0_pay2 (k0_pay16 (wd i)) (k0_pay17 k) (oM.view.readAt (Elt F) (colR j).toLoadRect y)) Finset.univ
/-- The output at place `(i, j)` from the block and the two edges that arrive. -/
def stencil (i j : Bool) (x : Vec F S128x128 .f32) (r : Vec F S1x128 .f32) (k : Vec F S128x1 .f32) : Vec F S128x128 .f32 :=
  addCol i j (addRow i j (local1 i j x) r) k
/-- Device `c`'s output. -/
def outAt (c : Dev nD) : Vec F S128x128 .f32 :=
  stencil (low c) (right c) (blk m ρ c) (landed m ρ false c) (landed m ρ true c)

/-- A device's output, with its place given by two equations, -/
theorem outAt_eq {c : Dev nD} {i j : Bool} (hi : low c = i) (hj : right c = j) :
    outAt m ρ c = stencil i j (blk m ρ c) (landed m ρ false c) (landed m ρ true c) := by subst hi hj; rfl
/-- the row that it sends, likewise, -/
theorem sentRow_eq {c : Dev nD} {i : Bool} (hi : low c = i) : sentRow m ρ c = k0_pay4 (xM.view.readAt (Elt F) (rowR i).toLoadRect (blk m ρ c)) := by
  subst hi; rfl
/-- and the column. -/
theorem sentCol_eq {c : Dev nD} {j : Bool} (hj : right c = j) : sentCol m ρ c = k0_pay6 (xM.view.readAt (Elt F) (colR j).toLoadRect (blk m ρ c)) := by
  subst hj; rfl

/-- The send buffers once filled. -/
theorem row_ready {c : Dev nD} {i : Bool} (hi : low c = i) :
    (((c : Thread nD τ).loc cc0_scratch0) ↦{fullShare} (k0_pay4 (xM.view.readAt (Elt F) (rowR i).toLoadRect (blk m ρ c)) : Vec F S1x128 .f32) : sProp 𝕄)
      ⊢ sndPts false c (sentRow m ρ c) := by rw [sentRow_eq m ρ hi]; exact BI.Entails.refl _
/-- The same for the column. -/
theorem col_ready {c : Dev nD} {j : Bool} (hj : right c = j) :
    (((c : Thread nD τ).loc cc0_scratch2) ↦{fullShare} (k0_pay6 (xM.view.readAt (Elt F) (colR j).toLoadRect (blk m ρ c)) : Vec F S128x1 .f32) : sProp 𝕄)
      ⊢ sndPts true c (sentCol m ρ c) := by rw [sentCol_eq m ρ hj]; exact BI.Entails.refl _

/-- The kernel's tests on a place's word. -/
theorem test0 (b : Bool) : (Scalar.cmpi .ne (Scalar.extui (Scalar.cmpi .eq (wd b) 0#32) : BitVec 32) 0#32 = 1#1) ↔ b = false := by cases b <;> decide
/-- The test whether a place is the second one. -/
theorem test1 (b : Bool) : (Scalar.cmpi .ne (Scalar.extui (Scalar.cmpi .eq (wd b) 1#32) : BitVec 32) 0#32 = 1#1) ↔ b = true := by cases b <;> decide

/-- The offsets of a whole buffer are all zero. -/
theorem zz : (![0, 0] : Fin 2 → Nat) = fun _ => 0 := funext fun a => by fin_cases a <;> rfl

/-! ## The records every device holds -/

/-- Every cell's invariant, at some names, and that every cell has reached round 0. -/
def recs (K : Dev nD × Fin 5 → ℕ) : sProp 𝕄 :=
  iprop((bigSep Finset.univ fun ck : Dev nD × Fin 5 => cellInv EX (sched m ρ) (K ck) (cell ck))
    ∗ bigSep Finset.univ fun ck : Dev nD × Fin 5 => reached EX (cell ck) 0)
instance recs_persistent (K : Dev nD × Fin 5 → ℕ) : BI.Persistent (recs m ρ K) := by unfold recs; infer_instance

/-- The records hold every cell's invariant, -/
theorem inv_of (K : Dev nD × Fin 5 → ℕ) (ck : Dev nD × Fin 5) : recs m ρ K ⊢ cellInv EX (sched m ρ) (K ck) (cell ck) :=
  sep_elim_left.trans (bigSep_elim (Finset.mem_univ ck))
/-- and that every cell has reached round 0. -/
theorem reached_of (K : Dev nD × Fin 5 → ℕ) (ck : Dev nD × Fin 5) : recs m ρ K ⊢ reached EX (cell ck) 0 :=
  sep_elim_right.trans (bigSep_elim (Finset.mem_univ ck))

/-- The tokens: one per duty, by cell and axis; and who pays it. -/
abbrev tok : Fin 6 → Fin 5 × Bool := fun
  | 0 => (0, false) | 1 => (0, true) | 2 => (1, false) | 3 => (2, false) | 4 => (3, false) | 5 => (4, false)
/-- The device at whose cell device `c` pays the duty. -/
abbrev payee : Fin 6 → Dev nD → Dev nD := fun
  | 0 => nb false | 1 => nb true | 2 => id | 3 => id | 4 => nb false | 5 => nb true

/-- The token of duty `t` of device `c`'s cell. -/
def tokAt (c : Dev nD) (t : Fin 6) : sProp 𝕄 := dutyTok EX (cell (c, (tok t).1)) 0 (tok t).2

/-- What is device `c`'s alone: its position at each of its five cells, and the tokens of the duties it pays. -/
def mine (c : Dev nD) : sProp 𝕄 :=
  iprop((bigSep Finset.univ fun k : Fin 5 => atPos EX (cell (c, k)) 0 ∅ 0) ∗ bigSep Finset.univ fun t : Fin 6 => tokAt (payee t c) t)

/-- Its credit at launch. -/
def credits (c : Dev nD) : sProp 𝕄 :=
  iprop(cred (tallyAt (barCell c) () 2) ∗ cred (tallyAt (rcvCell false c) () (credit false)) ∗ cred (tallyAt (rcvCell true c) () (credit true)))

/-- The four exchange buffers at some contents. -/
def bufs (c : Dev nD) : sProp 𝕄 :=
  iprop((∃ f, sndPts false c f) ∗ (∃ f, rcvPts false c f) ∗ (∃ f, sndPts true c f) ∗ (∃ f, rcvPts true c f))

/-- What a device has of the protocol when it starts: the records and what is its own. -/
def ghost (c : Dev nD) : sProp 𝕄 := iprop(∃ K, recs m ρ K ∗ mine c)
/-- With its credit and the levels. -/
def start (c : Dev nD) : sProp 𝕄 := iprop(ghost m ρ c ∗ credits c ∗ levAts L lv)
/-- What the body starts from, beside its staging buffers, -/
def before (c : Dev nD) : sProp 𝕄 := iprop(start m ρ c ∗ bufs c)
/-- and what it leaves: the exchange buffers, and the five counters at zero. -/
def after (c : Dev nD) : sProp 𝕄 := iprop(bufs c ∗ bigSep Finset.univ fun k : Fin 5 => semVal (cell (c, k)) 0)

/-- A separating product over five, written out, -/
theorem five_sep (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- and over six. -/
theorem six_sep (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The pipeline's proof data -/

/-- Per device: the staged block is kept, the output buffer ends at `outAt`, and the body's debts go from `O₀` to none. -/
def dats (_ : Fin 1) (c : Dev nD) : Dat τ (Elt F) Unit ℕ Gh ℕ cfg0 c where
  A w := (s₀ m ρ).mem ((cfg0.win w).arr.view.loc (c : Thread nD τ))
  after w _ := match w with
    | ⟨0, _⟩ => blk m ρ c
    | ⟨1, _⟩ => outAt m ρ c
  Φ t := match t with
    | ⟨0, _⟩ => before m ρ c
    | ⟨_ + 1, _⟩ => after c
  q _ := fullShare
  owed t := match t with
    | ⟨0, _⟩ => O₀ c
    | ⟨_ + 1, _⟩ => 0

/-! ## The protocol's steps -/

section Steps

variable (K : Dev nD × Fin 5 → ℕ) (c : Dev nD)

/-- The barrier signal to the neighbour along axis `a`: it hands over the device's own landing buffer of that axis. -/
theorem signal_nb (a : Bool) (n : Dev nD) (hn : n = nb a c) (f : Buf (Elt F) ((c : Thread nD τ).loc (rcvB a))) (O : CellTallies nD τ sig Unit) (W : Waits sig Unit)
    (t : Fin 6) (ht : tok t = (0, a) ∧ payee t c = nb a c) (r : Fin 5) (hr : cell (c, r) = rcvCell a c)
    {α : Type} {Q : α → sProp 𝕄} {k : PUnit → Prog (TpuEff nD τ sig (Elt F) Λ₀ .tc) α} :
    iprop(recs m ρ K ∗ tokAt (payee t c) t ∗ rcvPts a c f ∗ owes (c : Thread nD τ) (O + tallyAt (barCell (nb a c)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  unfold tokAt; rw [ht.1, ht.2]
  iintro ⟨#HR, Ht, Hb, HO⟩
  iapply (Rounds.wp_signal 𝒱₀ EX (sched m ρ) (c : Thread nD τ) none (dst := (nb a c : Thread nD τ)) (κ := K (nb a c, 0)) (d := a)
      (mem_bar m ρ a (nb a c)) rfl () O rfl) $$ [Ht Hb HO]
  isplitr; · iapply (inv_of m ρ K (nb a c, 0)); iexact HR
  isplitl [HO]; · iexact HO
  isplitl [Ht]; · iexact Ht
  isplitl [Hb]
  · rw [pay_bar]; unfold leavePay; rw [nb_nb]
    isplitl [Hb]; · iexists f; iexact Hb
    rw [← hr]; iapply (reached_of m ρ K (c, r)); iexact HR
  · iapply (reached_of m ρ K (nb a c, 0)); iexact HR

/-- A wait for the whole of one of the device's own cells: it hands over what that cell's duties pay. -/
theorem wait_own (r : Fin 5) {w : TpuEff nD τ sig (Elt F) Λ₀ .tc PUnit} {n : ℕ}
    {α : Type} {Q : α → sProp 𝕄} {k : PUnit → Prog (TpuEff nD τ sig (Elt F) Λ₀ .tc) α}
    (hw : ∀ G : PUnit → sProp 𝕄, wpE' (defs₀ (F := F)) 𝒱₀ (c : Thread nD τ) none [] Set.univ w G = waitSpec (c : Thread nD τ) Set.univ (five r) n G)
    (hn : (sched (F := F) m ρ).expect (cell (c, r)) 0 = n) (O : CellTallies nD τ sig Unit) (W : Waits sig Unit)
    (hO : (levAts L lv : sProp 𝕄) ⊢ MayWait (c : Thread nD τ) (five r) () O) :
    iprop(recs m ρ K ∗ levAts L lv ∗ cred (tallyAt (cell (c, r)) () n) ∗ atPos EX (cell (c, r)) 0 ∅ 0 ∗ owes (c : Thread nD τ) O W)
      ⊢ iprop(((owes (c : Thread nD τ) O (insert (five r, ()) W) ∗ atPos EX (cell (c, r)) 1 ∅ 0
            ∗ bigSep ((sched (F := F) m ρ).duties (cell (c, r)) 0 \ ∅) (fun d => (sched (F := F) m ρ).payload (cell (c, r)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, #Hl, Hc, Ha, HO⟩ Hk
  iapply (Rounds.wp_wait_rest_token 𝒱₀ EX (sched m ρ) (c : Thread nD τ) none (κ := K (c, r)) hw (Set.mem_univ _) () (O := O) (W := W) (R := 0) (m := 0) (T := ∅)
      (by rw [Nat.zero_add]; exact hn.symm)) $$ [Hc HO Ha]
  · isplitr; · iapply (inv_of m ρ K (c, r)); iexact HR
    isplitl [Hc]; · iexact Hc
    isplitl [HO]; · iexact HO
    isplitr; · iapply hO; iexact Hl
    iexact Ha
  iintro ⟨HO, Ha, -, Hp⟩
  iapply Hk
  isplitl [HO]; · iexact HO
  isplitl [Ha] <;> iassumption

/-- The row's transfer to the neighbour. -/
theorem send_row (n : Dev nD) (hn : n = nb false c) {hsc : (rowIn : Memref sig (Dev.tc n : Thread nD τ).2.kind .vmem S1x128 .f32).view.ref.isScScratch = false}
    {hsrc : (rowOut : Memref sig .tc .vmem S1x128 .f32).view.WordExact} {hdst : (rowIn : Memref sig .tc .vmem S1x128 .f32).view.WordExact}
    {hsem : DmaTarget.Typed .vmem (.dma (rcvS false)) (.remote (Dev.tc n : Thread nD τ) (rowIn : Memref sig .tc .vmem S1x128 .f32) (.dma (sndS false)) hsc)}
    (fd : Buf (Elt F) ((nb false c : Thread nD τ).loc (rcvB false))) (O : CellTallies nD τ sig Unit) (W : Waits sig Unit)
    {α : Type} {Q : α → sProp 𝕄} {k : PUnit → Prog (TpuEff nD τ sig (Elt F) Λ₀ .tc) α} :
    iprop(recs m ρ K ∗ tokAt c 2 ∗ tokAt (nb false c) 4 ∗ sndPts false c (sentRow m ρ c) ∗ rcvPts false (nb false c) fd
        ∗ owes (c : Thread nD τ) (O + tallyAt (rcvCell false (nb false c)) () (credit false)) W)
      ⊢ iprop(((cred (tallyAt (sndCell false c) () (credit false)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rowOut (.remote (Dev.tc n : Thread nD τ) rowIn (.dma (sndS false)) hsc) (.dma (rcvS false)) hsrc hdst hsem) k) Q) := by
  subst hn
  refine BIBase.Entails.trans ?_ (Rounds.wp_send_pointsTo 𝒱₀ EX (sched m ρ) (c : Thread nD τ) none (c' := (nb false c : Thread nD τ)) (κ₁ := K (c, 1)) (κ₂ := K (nb false c, 3))
    (hsc := hsc) (hsrc := hsrc) (hdst := hdst) (hsem := hsem) (k := k) (q := fullShare) (fs := sentRow m ρ c) (fd := fd) (r₁ := 0) (r₂ := 0) (d₁ := false) (d₂ := false)
    (by rw [duties_snd m ρ false]; exact Finset.mem_singleton_self _) (by rw [duties_rcv m ρ false]; exact Finset.mem_singleton_self _)
    () () (credit false) rfl (amount_snd m ρ false c) (amount_rcv m ρ false (nb false c)) O rfl (W := W)
    (by rw [pay_snd m ρ false]; exact exists_intro_trans (sentRow m ρ c) (by unfold sndPts; rw [View.set_whole]))
    (by
      rw [pay_rcv m ρ false, show landed m ρ false (nb false c) = sentRow m ρ (nb false (nb false c)) from rfl, nb_nb]; unfold rcvPts
      rw [View.set_whole, View.read_whole, View.write_whole_univ]))
  unfold sndPts rcvPts tokAt
  iintro ⟨#HR, Ht, Ht', Hs, Hd, HO⟩
  isplitr; · iapply (inv_of m ρ K (c, 1)); iexact HR
  isplitr; · iapply (inv_of m ρ K (nb false c, 3)); iexact HR
  rw [View.set_whole, View.set_whole]
  isplitl [Hs]; · iexact Hs
  isplitl [Hd]; · iexact Hd
  isplitl [HO]; · iexact HO
  isplitl [Ht]; · iexact Ht
  isplitr; · iapply (reached_of m ρ K (c, 1)); iexact HR
  isplitl [Ht']; · iexact Ht'
  iapply (reached_of m ρ K (nb false c, 3)); iexact HR

/-- The column's transfer to the neighbour. -/
theorem send_col (n : Dev nD) (hn : n = nb true c) {hsc : (colIn : Memref sig (Dev.tc n : Thread nD τ).2.kind .vmem S128x1 .f32).view.ref.isScScratch = false}
    {hsrc : (colOut : Memref sig .tc .vmem S128x1 .f32).view.WordExact} {hdst : (colIn : Memref sig .tc .vmem S128x1 .f32).view.WordExact}
    {hsem : DmaTarget.Typed .vmem (.dma (rcvS true)) (.remote (Dev.tc n : Thread nD τ) (colIn : Memref sig .tc .vmem S128x1 .f32) (.dma (sndS true)) hsc)}
    (fd : Buf (Elt F) ((nb true c : Thread nD τ).loc (rcvB true))) (O : CellTallies nD τ sig Unit) (W : Waits sig Unit)
    {α : Type} {Q : α → sProp 𝕄} {k : PUnit → Prog (TpuEff nD τ sig (Elt F) Λ₀ .tc) α} :
    iprop(recs m ρ K ∗ tokAt c 3 ∗ tokAt (nb true c) 5 ∗ sndPts true c (sentCol m ρ c) ∗ rcvPts true (nb true c) fd
        ∗ owes (c : Thread nD τ) (O + tallyAt (rcvCell true (nb true c)) () (credit true)) W)
      ⊢ iprop(((cred (tallyAt (sndCell true c) () (credit true)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma colOut (.remote (Dev.tc n : Thread nD τ) colIn (.dma (sndS true)) hsc) (.dma (rcvS true)) hsrc hdst hsem) k) Q) := by
  subst hn
  refine BIBase.Entails.trans ?_ (Rounds.wp_send_pointsTo 𝒱₀ EX (sched m ρ) (c : Thread nD τ) none (c' := (nb true c : Thread nD τ)) (κ₁ := K (c, 2)) (κ₂ := K (nb true c, 4))
    (hsc := hsc) (hsrc := hsrc) (hdst := hdst) (hsem := hsem) (k := k) (q := fullShare) (fs := sentCol m ρ c) (fd := fd) (r₁ := 0) (r₂ := 0) (d₁ := false) (d₂ := false)
    (by rw [duties_snd m ρ true]; exact Finset.mem_singleton_self _) (by rw [duties_rcv m ρ true]; exact Finset.mem_singleton_self _)
    () () (credit true) rfl (amount_snd m ρ true c) (amount_rcv m ρ true (nb true c)) O rfl (W := W)
    (by rw [pay_snd m ρ true]; exact exists_intro_trans (sentCol m ρ c) (by unfold sndPts; rw [View.set_whole]))
    (by
      rw [pay_rcv m ρ true, show landed m ρ true (nb true c) = sentCol m ρ (nb true (nb true c)) from rfl, nb_nb]; unfold rcvPts
      rw [View.set_whole, View.read_whole, View.write_whole_univ]))
  unfold sndPts rcvPts tokAt
  iintro ⟨#HR, Ht, Ht', Hs, Hd, HO⟩
  isplitr; · iapply (inv_of m ρ K (c, 2)); iexact HR
  isplitr; · iapply (inv_of m ρ K (nb true c, 4)); iexact HR
  rw [View.set_whole, View.set_whole]
  isplitl [Hs]; · iexact Hs
  isplitl [Hd]; · iexact Hd
  isplitl [HO]; · iexact HO
  isplitl [Ht]; · iexact Ht
  isplitr; · iapply (reached_of m ρ K (c, 2)); iexact HR
  isplitl [Ht']; · iexact Ht'
  iapply (reached_of m ρ K (nb true c, 4)); iexact HR

/-- After its one round a cell closes at zero; so do all five of a device. -/
theorem close_five : iprop(recs m ρ K ∗ bigSep Finset.univ fun r : Fin 5 => atPos EX (cell (c, r)) 1 ∅ 0)
    ⊢ |={Set.univ}=> bigSep Finset.univ fun r : Fin 5 => (semVal (cell (c, r)) 0 : sProp 𝕄) := by
  have h (r : Fin 5) : iprop(recs m ρ K ∗ atPos EX (cell (c, r)) 1 ∅ 0) ⊢ |={Set.univ}=> (semVal (cell (c, r)) 0 : sProp 𝕄) := by
    iintro ⟨#HR, Ha⟩
    iapply (Rounds.cell_close EX (sched m ρ) (Set.mem_univ (K (c, r))) (fun h => h) (R := 1) (duties_later m ρ (cell (c, r))))
    isplitr; · iapply (inv_of m ρ K (c, r)); iexact HR
    iexact Ha
  exact (bigSep_with_persistent fun r _ => h r).trans (bigSep_fupd _ _)

end Steps

/-! ## The body -/

/-- The two branches of a test compute the same from their edge. -/
theorem pay5_eq : @k0_pay5 F = @k0_pay4 F := rfl
/-- The same of the sent column, -/
theorem pay7_eq : @k0_pay7 F = @k0_pay6 F := rfl
/-- of the row's addition -/
theorem pay15_eq : @k0_pay15 F = @k0_pay14 F := rfl
/-- and of the column's. -/
theorem pay3_eq : @k0_pay3 F = @k0_pay2 F := rfl

/-- Loads and stores of a whole buffer. -/
theorem load_block (f : Vec F S128x128 .f32) : xM.view.readAt (Elt F) (Rect.unit (s := S128x128) ![0, 0] ![128, 128] inb_S128x128_S128x128_0_0).toLoadRect f = f :=
  Memref.readAt_unit_zero (Elt F) cc0_stg0_0 zz _ f
/-- A load of the whole landing row, -/
theorem load_row (f : Vec F S1x128 .f32) : rowIn.view.readAt (Elt F) (Rect.unit (s := S1x128) ![0, 0] ![1, 128] inb_S1x128_S1x128_0_0).toLoadRect f = f :=
  Memref.readAt_unit_zero (Elt F) cc0_scratch1 zz _ f
/-- and of the whole landing column, reads the contents. -/
theorem load_col (f : Vec F S128x1 .f32) : colIn.view.readAt (Elt F) (Rect.unit (s := S128x1) ![0, 0] ![128, 1] inb_S128x1_S128x1_0_0).toLoadRect f = f :=
  Memref.readAt_unit_zero (Elt F) cc0_scratch3 zz _ f
/-- A store over the whole output buffer, -/
theorem store_block (f w : Vec F S128x128 .f32) :
    (oM.access (Rect.unit (s := S128x128) ![0, 0] ![128, 128] inb_S128x128_S128x128_0_0) : View sig .tc _ _ _).write (Elt F) f w Finset.univ = w :=
  Memref.write_access_unit_zero_univ (Elt F) cc0_stg1_0 zz _ f w
/-- over the whole row to send -/
theorem store_row (f w : Vec F S1x128 .f32) :
    (rowOut.access (Rect.unit (s := S1x128) ![0, 0] ![1, 128] inb_S1x128_S1x128_0_0) : View sig .tc _ _ _).write (Elt F) f w Finset.univ = w :=
  Memref.write_access_unit_zero_univ (Elt F) cc0_scratch0 zz _ f w
/-- and over the whole column to send leaves what is stored. -/
theorem store_col (f w : Vec F S128x1 .f32) :
    (colOut.access (Rect.unit (s := S128x1) ![0, 0] ![128, 1] inb_S128x1_S128x1_0_0) : View sig .tc _ _ _).write (Elt F) f w Finset.univ = w :=
  Memref.write_access_unit_zero_univ (Elt F) cc0_scratch2 zz _ f w

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer at contents is its points-to at them. -/
theorem owns_whole (c : Dev nD) (b : Ref sig .tc) (X : b.ty.Contents (Elt F)) :
    (owns (Ix := Unit) (Name := ℕ) (U := Gh) (Lvl := ℕ) (c : Thread nD τ) (Memref.whole b) fullShare X : sProp 𝕄) = stg c b X := by
  unfold owns; simp only [Memref.view_whole, View.read_whole, View.set_whole]

/-- The body's starting resources, -/
def bodyPre (c : Dev nD) : sProp 𝕄 :=
  iprop(before m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and its final ones. -/
def bodyPost (c : Dev nD) : sProp 𝕄 :=
  iprop(after c ∗ (dats m ρ 0 c).owesAt () t0_0.succ ∗ stg c cc0_stg0_0 (blk m ρ c) ∗ stg c cc0_stg1_0 (outAt m ρ c))

set_option maxHeartbeats 4000000 in
/-- The body, from its starting resources to its final ones. -/
theorem sound_body (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5)
      fun _ => bodyPost m ρ c := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId,
    bar_sem, word_low, word_right, pay5_eq, pay7_eq, pay15_eq, pay3_eq]
  simp only [snd_row, snd_col, rcv_row, rcv_col]
  rcases hi : low c <;> rcases hj : right c
  all_goals
    simp only [test0, test1, dite_true, dite_false, Bool.true_eq_false, Bool.false_eq_true, Prog.bind_op, Prog.bind_ret, Prog.pure_eq_ret, Prog.bind_assoc]
    unfold bodyPre bodyPost before start ghost mine credits bufs
    rw [five_sep, six_sep]
    iintro ⟨⟨⟨⟨%K, #HR, ⟨Ha0, Ha1, Ha2, Ha3, Ha4⟩, Ht0, Ht1, Ht2, Ht3, Ht4, Ht5⟩, ⟨Hc0, Hc3, Hc4⟩, #Hlev⟩,
      ⟨%f0, Hs0⟩, ⟨%f1, Hr0⟩, ⟨%f2, Hs1⟩, ⟨%f3, Hr1⟩⟩, Ho, ⟨%d0, %g0, %hg0, Hx⟩, ⟨%d1, %g1, %hg1, Hout⟩⟩
    have hx : g0 = blk m ρ c := by rw [hg0]; unfold Dat.before; rw [if_pos (fetch0_0 t0_0)]; rfl
    subst hx
    unfold Dat.owesAt Pipeline.owesWithin
    icases Ho with ⟨%W, %hW, HO⟩
    rw [show (dats m ρ 0 c).owed t0_0.castSucc = O₀ c from rfl]
    unfold O₀
    iapply (signal_nb m ρ K c false _ (dev1_nb c) f1 (O₁ c) W 0 ⟨rfl, rfl⟩ 3 rfl) $$ [Ht0 Hr0 HO]
    · isplitr; · iexact HR
      isplitl [Ht0]; · iexact Ht0
      isplitl [Hr0] <;> iassumption
    iintro HO
    unfold O₁
    iapply (signal_nb m ρ K c true _ (dev2_nb c) f3 (O₂ c) W 1 ⟨rfl, rfl⟩ 4 rfl) $$ [Ht1 Hr1 HO]
    · isplitr; · iexact HR
      isplitl [Ht1]; · iexact Ht1
      isplitl [Hr1] <;> iassumption
    iintro HO
    iapply (wait_own m ρ K c 0 (n := 2) (wpE_semWait_eq 𝒱₀ (c : Thread nD τ) none Set.univ) (expect_bar m ρ c) (O₂ c) W (may_wait_bar c)) $$ [Hc0 HO Ha0]
    · isplitr; · iexact HR
      isplitr; · iexact Hlev
      isplitl [Hc0]; · iexact Hc0
      isplitl [Ha0] <;> iassumption
    iintro ⟨HO, Ha0, Hp⟩
    ihave Hp' := (Entails.of_eq (all_bar m ρ c)) $$ Hp
    unfold leavePay
    icases Hp' with ⟨⟨⟨%e0, Hd0⟩, -⟩, ⟨%e1, Hd1⟩, -⟩
    unfold sndPts
    iapply (wp_load 𝒱₀ (c : Thread nD τ) none Set.univ (m := xM) (Finset.subset_univ _)) $$ Hx; iintro Hx
    iapply (wp_load 𝒱₀ (c : Thread nD τ) none Set.univ (m := rowOut) (Finset.subset_univ _)) $$ Hs0; iintro Hs0
    iapply (wp_store 𝒱₀ (c : Thread nD τ) none Set.univ (m := rowOut) (Mk := Finset.univ) (Finset.subset_univ _)) $$ [Hs0]
    · iexact Hs0
    iintro Hs0
    iapply (wp_load 𝒱₀ (c : Thread nD τ) none Set.univ (m := xM) (Finset.subset_univ _)) $$ Hx; iintro Hx
    iapply (wp_load 𝒱₀ (c : Thread nD τ) none Set.univ (m := colOut) (Finset.subset_univ _)) $$ Hs1; iintro Hs1
    iapply (wp_store 𝒱₀ (c : Thread nD τ) none Set.univ (m := colOut) (Mk := Finset.univ) (Finset.subset_univ _)) $$ [Hs1]
    · iexact Hs1
    iintro Hs1
    rw [store_row, store_col]
    ihave Hs0' := (row_ready m ρ hi) $$ Hs0
    ihave Hs1' := (col_ready m ρ hj) $$ Hs1
    unfold O₂
    iapply (send_row m ρ K c _ (dev3_nb c) e0 _ _) $$ [Ht2 Ht4 Hs0' Hd0 HO]
    · isplitr; · iexact HR
      isplitl [Ht2]; · iexact Ht2
      isplitl [Ht4]; · iexact Ht4
      isplitl [Hs0']; · iexact Hs0'
      isplitl [Hd0] <;> iassumption
    iintro ⟨Hc1, HO⟩
    rw [← zero_add (tallyAt (rcvCell true (nb true c)) () (credit true))]
    iapply (send_col m ρ K c _ (dev4_nb c) e1 _ _) $$ [Ht3 Ht5 Hs1' Hd1 HO]
    · isplitr; · iexact HR
      isplitl [Ht3]; · iexact Ht3
      isplitl [Ht5]; · iexact Ht5
      isplitl [Hs1']; · iexact Hs1'
      isplitl [Hd1] <;> iassumption
    iintro ⟨Hc2, HO⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (Mk := Finset.univ) (Finset.subset_univ _)) $$ [Hout]
    · iexact Hout
    iintro Hout
    rw [load_block, store_block]
    iapply (wait_own m ρ K c 3 (wpE_waitDma2_eq 𝒱₀ (c : Thread nD τ) none Set.univ) (expect_rcv m ρ false c) 0 _ (may_wait_none c _)) $$ [Hc3 HO Ha3]
    · isplitr; · iexact HR
      isplitr; · iexact Hlev
      isplitl [Hc3]; · iexact Hc3
      isplitl [Ha3] <;> iassumption
    iintro ⟨HO, Ha3, Hp⟩
    ihave Hr0 := (Entails.of_eq (all_rcv m ρ false c)) $$ Hp
    unfold rcvPts
    iapply (wp_load 𝒱₀ (c : Thread nD τ) none Set.univ (m := rowIn) (Finset.subset_univ _)) $$ Hr0; iintro Hr0
    rw [load_row]
    iapply (wp_load 𝒱₀ (c : Thread nD τ) none Set.univ (m := oM) (Finset.subset_univ _)) $$ Hout; iintro Hout
    iapply (wp_load 𝒱₀ (c : Thread nD τ) none Set.univ (m := oM) (Finset.subset_univ _)) $$ Hout; iintro Hout
    iapply (wp_store 𝒱₀ (c : Thread nD τ) none Set.univ (m := oM) (Mk := Finset.univ) (Finset.subset_univ _)) $$ [Hout]
    · iexact Hout
    iintro Hout
    iapply (wait_own m ρ K c 4 (wpE_waitDma2_eq 𝒱₀ (c : Thread nD τ) none Set.univ) (expect_rcv m ρ true c) 0 _ (may_wait_none c _)) $$ [Hc4 HO Ha4]
    · isplitr; · iexact HR
      isplitr; · iexact Hlev
      isplitl [Hc4]; · iexact Hc4
      isplitl [Ha4] <;> iassumption
    iintro ⟨HO, Ha4, Hp⟩
    ihave Hr1 := (Entails.of_eq (all_rcv m ρ true c)) $$ Hp
    unfold rcvPts
    iapply (wp_load 𝒱₀ (c : Thread nD τ) none Set.univ (m := colIn) (Finset.subset_univ _)) $$ Hr1; iintro Hr1
    rw [load_col]
    iapply (wp_load 𝒱₀ (c : Thread nD τ) none Set.univ (m := oM) (Finset.subset_univ _)) $$ Hout; iintro Hout
    iapply (wp_load 𝒱₀ (c : Thread nD τ) none Set.univ (m := oM) (Finset.subset_univ _)) $$ Hout; iintro Hout
    iapply (wp_store 𝒱₀ (c : Thread nD τ) none Set.univ (m := oM) (Mk := Finset.univ) (Finset.subset_univ _)) $$ [Hout]
    · iexact Hout
    iintro Hout
    iapply (wait_own m ρ K c 1 (n := rowOut.view.dmaCredit) (wpE_waitDma2_eq 𝒱₀ (c : Thread nD τ) none Set.univ) ((expect_snd m ρ false c).trans credit_row) 0 _ (may_wait_none c _)) $$ [Hc1 HO Ha1]
    · isplitr; · iexact HR
      isplitr; · iexact Hlev
      isplitl [Hc1]; · rw [← credit_row]; iexact Hc1
      isplitl [Ha1] <;> iassumption
    iintro ⟨HO, Ha1, Hp⟩
    ihave Hs0 := (Entails.of_eq (all_snd m ρ false c)) $$ Hp
    iapply (wait_own m ρ K c 2 (n := colOut.view.dmaCredit) (wpE_waitDma2_eq 𝒱₀ (c : Thread nD τ) none Set.univ) ((expect_snd m ρ true c).trans credit_col) 0 _ (may_wait_none c _)) $$ [Hc2 HO Ha2]
    · isplitr; · iexact HR
      isplitr; · iexact Hlev
      isplitl [Hc2]; · rw [← credit_col]; iexact Hc2
      isplitl [Ha2] <;> iassumption
    iintro ⟨HO, Ha2, Hp⟩
    ihave Hs1 := (Entails.of_eq (all_snd m ρ true c)) $$ Hp
    imod (close_five m ρ K c) $$ [Ha0 Ha1 Ha2 Ha3 Ha4] with Hz
    · isplitr; · iexact HR
      rw [five_sep]
      isplitl [Ha0]; · iexact Ha0
      isplitl [Ha1]; · iexact Ha1
      isplitl [Ha2]; · iexact Ha2
      isplitl [Ha3] <;> iassumption
    rw [wp_ret]; imodintro
    unfold after bufs rcvPts
    rw [show (dats m ρ 0 c).owed t0_0.succ = 0 from rfl]
    isplitl [Hs0 Hr0 Hs1 Hr1 Hz]
    · isplitr [Hz]
      · isplitl [Hs0]; · iexact Hs0
        isplitl [Hr0]; · iexists _; iexact Hr0
        isplitl [Hs1]; · iexact Hs1
        iexists _; iexact Hr1
      iexact Hz
    isplitl [HO]
    · iexists (insert (five 2, ()) (insert (five 1, ()) (insert (five 4, ()) (insert (five 3, ()) (insert (five 0, ()) W)))))
      isplitr; · ipureintro; exact fun _ _ => Or.inl trivial
      iexact HO
    isplitl [Hx]
    · iexists _; isplitr; · (ipureintro; rfl)
      iexact Hx
    iexists _; isplitr
    · ipureintro; exact (outAt_eq m ρ hi hj).symm
    iexact Hout

/-- What the pipeline asks of the body at its one grid point. -/
theorem body_obligation (c : Dev nD) : Pipeline.BodyObligation (dats (F := F) m ρ 0 c) (defs₀ (F := F)) 𝒱₀ () Set.univ := fun t => by
  rw [fin_N0 t, bigSep_W0, bigSep_W0]
  simp only [owns_whole]
  exact sound_body m ρ c

end Cert.KernelIdeal.Halo

end
-- ==== Proof.Run.lean ====
/-
# The launch

Every device's run put together: from any memory with zero counters every execution of the program ends with each output
array at `outAt`, the input as it was and every counter at zero.
-/
module

public import Idealize.ShloMosaic.Lib.Pipeline.CollectiveSegs
public import proofs.«01_k».proof.Proof.Body

@[expose] public section

set_option maxRecDepth 16384

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ Gh ℕ

variable (m : (ℓ : Loc nD τ sig) → Buf (Elt F) ℓ) (ρ : Dev nD → PrngReg)

/-! ## Funding the rounds -/

/-- The four transfer semaphores are the region's own ones. -/
theorem ownSemFacts : Pipeline.OwnSemFacts cfg0.spec own := by decide

/-- Different duties of a device's cells are told apart by cell and axis. -/
theorem tok_inj : Function.Injective tok := by decide

/-- All cells, and all tokens. -/
def allCells : Finset (GSem nD τ sig) := Finset.univ.map ⟨cell, cell_inj⟩
/-- The name of a token: its cell, its round and its axis. -/
def key (ct : Dev nD × Fin 6) : GSem nD τ sig × ℕ × Bool := (cell (ct.1, (tok ct.2).1), 0, (tok ct.2).2)
/-- Different tokens have different names. -/
theorem key_inj : Function.Injective key := fun x y h => by
  have h1 := cell_inj (congrArg Prod.fst h)
  have h2 : tok x.2 = tok y.2 := Prod.ext (congrArg Prod.snd h1) (congrArg (fun z : GSem nD τ sig × ℕ × Bool => z.2.2) h)
  exact Prod.ext (congrArg (fun z : Dev nD × Fin 5 => z.1) h1) (tok_inj h2)
/-- All tokens by name. -/
def allToks : Finset (GSem nD τ sig × ℕ × Bool) := Finset.univ.map ⟨key, key_inj⟩

/-- The launch's ghost element. -/
def u₀ : Gh := (initOf (Pipeline.cells cfgs cellOf_inj) (Pipeline.launchToks cfgs cellOf_inj), initOf allCells allToks)

/-- What the launch deals a device: the state of its cells, its positions at them, and the tokens of their duties. -/
def dealt (c : Dev nD) : sProp 𝕄 :=
  iprop((bigSep Finset.univ fun k : Fin 5 => roundState EX (sched m ρ) (cell (c, k)) 0)
    ∗ (bigSep Finset.univ fun k : Fin 5 => reached EX (cell (c, k)) 0)
    ∗ (bigSep Finset.univ fun k : Fin 5 => atPos EX (cell (c, k)) 0 ∅ 0)
    ∗ bigSep Finset.univ fun t : Fin 6 => tokAt c t)

/-- The ghost element deals every device its share. -/
theorem deal : BI.own (EX (initOf allCells allToks)) ⊢ (|==> bigSep Finset.univ (dealt m ρ) : sProp 𝕄) := by
  have hc (Φ : GSem nD τ sig → sProp 𝕄) : bigSep allCells Φ = bigSep Finset.univ fun c : Dev nD => bigSep Finset.univ fun k : Fin 5 => Φ (cell (c, k)) :=
    (bigSep_map _).trans (bigSep_univ_prod _)
  have ht : bigSep allToks (fun x => (dutyTok EX x.1 x.2.1 x.2.2 : sProp 𝕄)) = bigSep Finset.univ fun c : Dev nD => bigSep Finset.univ fun t : Fin 6 => tokAt c t :=
    (bigSep_map _).trans (bigSep_univ_prod _)
  unfold dealt
  rw [bigSep_sep', bigSep_sep', bigSep_sep', ← ht, ← hc fun g => roundState EX (sched m ρ) g 0, ← hc fun g => reached EX g 0, ← hc fun g => atPos EX g 0 ∅ 0]
  exact Rounds.fund EX (sched m ρ) allCells allToks

/-! ## The invariants made, and the tokens dealt to who pays -/

/-- The region's own counters of a device are those of its four transfer cells, -/
theorem ownSems_eq (c : Dev nD) : (Pipeline.ownSems0 (Ix := Unit) (Name := ℕ) (U := Gh) (Lvl := ℕ) (Val := Elt F) (τ := τ) own c : sProp 𝕄)
    = iprop(semVal (cell (c, 1)) 0 ∗ semVal (cell (c, 2)) 0 ∗ semVal (cell (c, 3)) 0 ∗ semVal (cell (c, 4)) 0) := by
  rw [Pipeline.ownSems0_eq_of_list c own [0, 1, 2, 3] (by decide) (by decide)]; rfl
/-- and its one other counter is the barrier's. -/
theorem unscopedSems_eq (c : Dev nD) : (unscopedSems0 c : sProp 𝕄) = semVal (cell (c, 0)) 0 := by
  unfold unscopedSems0; rw [bigSep_eq_bigSepL_of_eq [SemLoc.reg barS] (by decide) (by decide)]; rfl

/-- A device's five counters, and its cells' state, as the two parts of its cells' invariants. -/
theorem parts (c : Dev nD) :
    iprop(Pipeline.ownSems0 (Ix := Unit) (Name := ℕ) (U := Gh) (Lvl := ℕ) (Val := Elt F) (τ := τ) own c ∗ unscopedSems0 c ∗ dealt m ρ c)
      ⊢ iprop((bigSep Finset.univ fun k : Fin 5 => iprop(semVal (cell (c, k)) 0 ∗ roundState EX (sched m ρ) (cell (c, k)) 0))
          ∗ (bigSep Finset.univ fun k : Fin 5 => reached EX (cell (c, k)) 0)
          ∗ (bigSep Finset.univ fun k : Fin 5 => atPos EX (cell (c, k)) 0 ∅ 0)
          ∗ bigSep Finset.univ fun t : Fin 6 => tokAt c t) := by
  unfold dealt
  rw [ownSems_eq, unscopedSems_eq, bigSep_sep', five_sep fun k => semVal (cell (c, k)) 0]
  iintro ⟨⟨H1, H2, H3, H4⟩, H0, Hst, Hrest⟩
  isplitr [Hrest]
  · isplitr [Hst]
    · isplitl [H0]; · iexact H0
      isplitl [H1]; · iexact H1
      isplitl [H2]; · iexact H2
      isplitl [H3] <;> iassumption
    iexact Hst
  iexact Hrest

/-- The payer's payee is the owner: paying goes back and forth between two devices. -/
theorem payee_payee (t : Fin 6) (c : Dev nD) : payee t (payee t c) = c := by revert t c; decide
/-- Every duty's token goes to the device that pays it. -/
theorem toks_to_payers : (bigSep Finset.univ fun c : Dev nD => bigSep Finset.univ fun t : Fin 6 => (tokAt c t : sProp 𝕄))
    = bigSep Finset.univ fun c : Dev nD => bigSep Finset.univ fun t : Fin 6 => tokAt (payee t c) t := by
  let e : Dev nD × Fin 6 ≃ Dev nD × Fin 6 :=
    { toFun := fun x => (payee x.2 x.1, x.2), invFun := fun x => (payee x.2 x.1, x.2)
      left_inv := fun x => Prod.ext (payee_payee x.2 x.1) rfl, right_inv := fun x => Prod.ext (payee_payee x.2 x.1) rfl }
  rw [← bigSep_univ_prod (fun x : Dev nD × Fin 6 => (tokAt x.1 x.2 : sProp 𝕄)), bigSep_univ_equiv e, bigSep_univ_prod]; rfl

/-- Every cell goes under an invariant; -/
theorem invs : (bigSep Finset.univ fun ck : Dev nD × Fin 5 => iprop(semVal (cell ck) 0 ∗ roundState EX (sched m ρ) (cell ck) 0) : sProp 𝕄)
    ⊢ |={Set.univ}=> bigSep Finset.univ fun ck : Dev nD × Fin 5 => iprop(∃ κ, cellInv EX (sched m ρ) κ (cell ck)) :=
  (bigSep_mono fun ck _ => (Rounds.body_intro EX (sched m ρ) (cell ck)).trans inv_alloc).trans (bigSep_fupd _ _)

/-- and every device has what it starts from. -/
theorem glob : (bigSep Finset.univ fun c => iprop(Pipeline.ownSems0 (Ix := Unit) (Name := ℕ) (U := Gh) (Lvl := ℕ) (Val := Elt F) (τ := τ) own c ∗ unscopedSems0 c ∗ dealt m ρ c) : sProp 𝕄)
    ⊢ |={Set.univ}=> bigSep Finset.univ (ghost m ρ) := by
  refine BIBase.Entails.trans (bigSep_mono fun c _ => parts m ρ c) ?_
  rw [bigSep_sep', bigSep_sep', bigSep_sep', toks_to_payers,
    ← bigSep_univ_prod (fun ck : Dev nD × Fin 5 => iprop(semVal (cell ck) 0 ∗ roundState EX (sched m ρ) (cell ck) 0)),
    ← bigSep_univ_prod (fun ck : Dev nD × Fin 5 => (reached EX (cell ck) 0 : sProp 𝕄)),
    ← bigSep_sep' Finset.univ (fun c : Dev nD => bigSep Finset.univ fun k : Fin 5 => (atPos EX (cell (c, k)) 0 ∅ 0 : sProp 𝕄))]
  iintro ⟨Hi, #Hr, Hm⟩
  imod (invs m ρ) $$ Hi with Hi
  ihave HK := (BI.bigSep_exists_pi Finset.univ (fun (ck : Dev nD × Fin 5) (κ : ℕ) => (cellInv EX (sched m ρ) κ (cell ck) : sProp 𝕄))) $$ Hi
  icases HK with ⟨%K, #HI⟩
  imodintro
  iapply (bigSep_with_persistent (R := recs m ρ K) fun c _ => show iprop(recs m ρ K ∗ mine c) ⊢ ghost m ρ c from exists_intro (Φ := fun K => iprop(recs m ρ K ∗ mine c)) K)
  isplitr
  · unfold recs; isplitl; · iexact HI
    iexact Hr
  · unfold mine; iexact Hm

/-! ## The launch credit -/

/-- Equal cells are on the same device. -/
theorem dev_of {c d : Dev nD} {s : SemLoc sig} (h : (((c : Thread nD τ), s) : GSem nD τ sig) = ((d : Thread nD τ), s)) : c = d :=
  congrArg (fun g : GSem nD τ sig => g.1.1) h
/-- One device, the neighbour, owes a cell what it is owed along an axis; -/
theorem sum_hit (a : Bool) (s : SemLoc sig) (n : ℕ) (c : Dev nD) : (∑ d : Dev nD, tallyAt (((nb a d : Dev nD) : Thread nD τ), s) () n ((c : Thread nD τ), s) ()) = n := by
  rw [Finset.sum_eq_single (nb a c) (fun d _ hd => by
    rw [tallyAt_apply, if_neg fun h => hd (by rw [dev_of h.1, nb_nb])]) fun h => absurd (Finset.mem_univ _) h, tallyAt_apply, nb_nb, if_pos ⟨rfl, rfl⟩]
/-- nobody owes it for another semaphore. -/
theorem sum_miss (a : Bool) {s s' : SemLoc sig} (h : s' ≠ s) (n : ℕ) (c : Dev nD) :
    (∑ d : Dev nD, tallyAt (((nb a d : Dev nD) : Thread nD τ), s) () n ((c : Thread nD τ), s') ()) = 0 :=
  Finset.sum_eq_zero fun d _ => by rw [tallyAt_apply, if_neg fun h' => h (congrArg Prod.snd h'.1)]

/-- A cell's launch credit is the sum of what all devices owe it. -/
theorem launch_at (c : Dev nD) (s : SemLoc sig) (n : ℕ) (h : (∑ d : Dev nD, O₀ d ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]
/-- What all devices owe a cell, debt by debt. -/
theorem sum_owed (c : Dev nD) (s : SemLoc sig) : (∑ d : Dev nD, O₀ d ((c : Thread nD τ), s) ())
    = (∑ d : Dev nD, tallyAt (rcvCell true (nb true d)) () (credit true) ((c : Thread nD τ), s) ())
      + (∑ d : Dev nD, tallyAt (rcvCell false (nb false d)) () (credit false) ((c : Thread nD τ), s) ())
      + (∑ d : Dev nD, tallyAt (barCell (nb true d)) () 1 ((c : Thread nD τ), s) ())
      + ∑ d : Dev nD, tallyAt (barCell (nb false d)) () 1 ((c : Thread nD τ), s) () := by
  rw [← Finset.sum_add_distrib, ← Finset.sum_add_distrib, ← Finset.sum_add_distrib]
  exact Finset.sum_congr rfl fun d _ => rfl

/-- A barrier cell is owed two units, -/
theorem owed_bar (c : Dev nD) : (∑ d : Dev nD, O₀ d (barCell c) ()) = 2 := by
  rw [sum_owed, sum_hit true, sum_hit false, sum_miss true (by decide), sum_miss false (by decide)]
/-- the row's "arrived" cell one transfer of a row, -/
theorem owed_row (c : Dev nD) : (∑ d : Dev nD, O₀ d (rcvCell false c) ()) = credit false := by
  rw [sum_owed, sum_hit false (.dma (rcvS false)), sum_miss true (by decide), sum_miss true (by decide), sum_miss false (by decide), Nat.zero_add]; rfl
/-- the column's one transfer of a column. -/
theorem owed_col (c : Dev nD) : (∑ d : Dev nD, O₀ d (rcvCell true c) ()) = credit true := by
  rw [sum_owed, sum_hit true (.dma (rcvS true)), sum_miss false (by decide), sum_miss true (by decide), sum_miss false (by decide)]; rfl

/-- So the launch credit covers all that a device waits for from its neighbours. -/
theorem creds (c : Dev nD) : (Pipeline.launchCred O₀ c : sProp 𝕄) ⊢ credits c := by
  unfold Pipeline.launchCred credits
  rw [← launch_at c _ 2 (owed_bar c), ← launch_at c _ _ (owed_row c), ← launch_at c _ _ (owed_col c)]
  refine BIBase.Entails.trans (bigSep_subset (t := {.reg barS, .dma (rcvS false), .dma (rcvS true)}) (Finset.subset_univ _)) (Entails.of_eq ?_)
  rw [bigSep_eq_bigSepL_of_eq [SemLoc.reg barS, SemLoc.dma (rcvS false), SemLoc.dma (rcvS true)] (by decide) (by decide)]; rfl

/-! ## The run -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hl, Hc, -, Hg⟩
  ihave Hc' := (creds (F := F) c) $$ Hc
  imodintro
  unfold start
  isplitl
  · isplitl [Hg]; · iexact Hg
    isplitl [Hc'] <;> iassumption
  · iempintro

/-- The region's further buffers are the four exchange buffers. -/
theorem rest_eq (c : Dev nD) : (Pipeline.scopedRest cfg0.spec c : sProp 𝕄) = bufs c := by
  rw [scopedRest0_eq]; rfl

/-- What the body starts from. -/
theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, rest_eq]
  unfold before
  iintro ⟨Hs, -, Hb⟩
  isplitl [Hs] <;> iassumption

/-- What the body leaves gives the region its counters and buffers back. -/
theorem after_exit (c : Dev nD) :
    (dats m ρ 0 c).Φ (Fin.last cfg0.N) ⊢ iprop(unscopedSems0 c ∗ Pipeline.ownSems0 own c ∗ Pipeline.scopedRest cfg0.spec c) := by
  rw [show (dats m ρ 0 c).Φ (Fin.last cfg0.N) = after c from rfl, rest_eq, ownSems_eq, unscopedSems_eq]
  unfold after; rw [five_sep]
  iintro ⟨Hb, H0, Hs⟩
  isplitl [H0]; · iexact H0
  isplitl [Hs] <;> iassumption

/-- The waits for the staging copies are allowed at every step. -/
theorem waits (c : Dev nD) : (levAts L lv : sProp 𝕄) ⊢ Pipeline.cellsWaits cfgs (dats m ρ) () 0 c :=
  Pipeline.cellsWaits_intro cfgs (dats m ρ) () 0 c fun w s t =>
    may_wait_stage c _ (by fin_cases w <;> fin_cases s <;> decide) _ (by rcases t with ⟨_ | _, ht⟩ <;> [exact .inl rfl; exact .inr rfl])

/-- Every window's array is held whole. -/
theorem share_eq (c : Dev nD) (w : Fin cfg0.W) : (dats m ρ 0 c).share w = fullShare := by unfold Dat.share; split <;> rfl

/-- Window `w`'s array on device `c` after the run. -/
def final (c : Dev nD) (w : Fin cfg0.W) : Buf (Elt F) ((cfg0.win w).arr.view.loc (c : Thread nD τ)) := (dats m ρ 0 c).arrAt w cfg0.N

/-- From any memory with zero counters every fair execution of the program on the four devices ends, with each device's arrays
    at `final` and every counter at zero. -/
theorem run_main : θ_run defs (onTc (τ := τ) (main (F := F))) (s₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's block is its whole argument buffer; -/
theorem blk_eq (c : Dev nD) : blk m ρ c = m ((c.tc : Thread nD τ).loc main_arg0) :=
  Memref.read_access_unit_zero (Elt F) main_arg0 (funext fun a => by fin_cases a <;> decide) (fun a => by fin_cases a <;> decide) _
/-- the run leaves it, -/
theorem final_x (c : Dev nD) : final m ρ c (0 : Fin 2) = m ((c.tc : Thread nD τ).loc main_arg0) :=
  (dats m ρ 0 c).arrAt_in (0 : Fin 2) rfl _
/-- and leaves the result buffer at `outAt`. -/
theorem final_out (c : Dev nD) : final m ρ c (1 : Fin 2) = outAt m ρ c := by
  have h : (win0_1.blk (0 : Fin 1)).view.read (Elt F) (final m ρ c (1 : Fin 2)) = outAt m ρ c := by
    unfold final
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans h

/-- The run in terms of the launch's memory: on every device the result buffer holds `outAt`, the argument is as it was and
    every counter is at zero. -/
theorem run : θ_run defs (onTc (τ := τ) (main (F := F))) ⟨m, fun _ => 0, ρ⟩
    (fun r => (∀ c : Dev nD, r.2.mem ((c.tc : Thread nD τ).loc main_v1) = outAt m ρ c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (final_out m ρ c), (h.1 c (0 : Fin 2)).trans (final_x m ρ c)⟩, h.2⟩)
    (run_main m ρ)

end Cert.KernelIdeal.Halo

end
-- ==== Proof.Frames.lean ====
/-
# The frame claims

That each program runs, leaves its argument as it was and every counter at zero. The program as printed and its idealization
are one text, so their tables and their entry points are equal and the first inherits the second's run.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem

variable {F : FTy → Type} [FloatOps F]

/-- The idealized program runs at any float values, keeps its argument and leaves every counter at zero. -/
theorem frame_any (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run _ _ _).mono (fun _ h => ⟨fun c => (h.1 c).2, h.2⟩) (Cert.KernelIdeal.Halo.run m g)

/-- The idealized program's frame. -/
theorem frame_ideal : Cert.quiescent_KernelIdeal (hKernelIdeal := Cert.KernelIdeal.Gen.facts) := fun m g _ => frame_any (F := Ideal) m g

attribute [local instance] Cert.Kernel.Gen.facts Cert.KernelIdeal.Gen.facts

/-- The two programs' body tables are equal, -/
theorem bodies_eq : Cert.Kernel.defs₀ (F := F) = Cert.KernelIdeal.defs₀ (F := F) := by
  unfold Cert.Kernel.defs₀ Cert.KernelIdeal.defs₀
  exact congrArg _ (funext fun l => by
    match l with
    | 0 => rfl)
/-- so are their whole tables, -/
theorem defs_eq : Cert.Kernel.defs (F := F) = Cert.KernelIdeal.defs (F := F) := congrArg _ bodies_eq
/-- and their entry points. -/
theorem main_eq : Cert.Kernel.main (F := F) = Cert.KernelIdeal.main (F := F) := rfl

/-- The frame of the program as printed. -/
theorem frame_printed : Cert.quiescent_Kernel := fun m g _ => by
  rw [defs_eq, main_eq]
  exact frame_any (F := Bits) m g

/-- The reference runs on its one device; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof

end
-- ==== Proof.Value.lean ====
/-
# The output, entry by entry

What a device leaves in its output buffer, read at an entry over the extended reals, in terms of its block and the two edges
that arrive: on the border of the whole array the block's entry, elsewhere the five-point sum, in which a neighbour of the
entry outside the block is taken from the edges.
-/
module

public import proofs.«01_k».proof.Proof.Body
public import Idealize.ShloMosaic.Lib.Pointwise

@[expose] public section

noncomputable section

namespace Cert.KernelIdeal.Halo

open Cert.KernelIdeal Cert.KernelIdeal.Gen
open Idealize.ShloMosaic Idealize.ShloMosaic.TcCoe

/-- The row or column of a block that lies on the border of the whole array. -/
def rim : Bool → ℕ | false => 0 | true => 127

/-- The program's test whether a coordinate is on the border, as a word. -/
theorem rim_word (i : Bool) (a : Fin 128) : IntOp.ori (IntOp.andi (Scalar.cmpi CmpIPredicate.eq (wd i) 0#32) (IntOp.cmpi CmpIPredicate.eq (BitVec.ofNat 32 a) 0#32))
      (IntOp.andi (Scalar.cmpi CmpIPredicate.eq (wd i) 1#32) (IntOp.cmpi CmpIPredicate.eq (BitVec.ofNat 32 a) 127#32))
    = if a.val = rim i then 1#1 else 0#1 := by
  cases i <;> revert a <;> decide

/-- The weight of an entry itself. -/
abbrev wH : EReal := Ideal.ofBits FTy.f32 1056964608#32
/-- The weight of each of the four neighbours. -/
abbrev wE : EReal := Ideal.ofBits FTy.f32 1040187392#32

/-- The local step at an entry: on the border the block's entry, elsewhere the five-point sum with zeros beyond the block. -/
theorem local1_at (i j : Bool) (x : Vec Ideal S128x128 .f32) (a b : Fin 128) : local1 i j x (ix2 a b)
    = if a.val = rim i ∨ b.val = rim j then x (ix2 a b) else
      wH * x (ix2 a b) + wE * ((((if h : a.val < 1 then 0 else x (ix2 ⟨a.val - 1, by omega⟩ b)) + if h : a.val < 127 then x (ix2 ⟨1 + a.val, by omega⟩ b) else 0)
        + if h : b.val < 1 then 0 else x (ix2 a ⟨b.val - 1, by omega⟩)) + if h : b.val < 127 then x (ix2 a ⟨1 + b.val, by omega⟩) else 0) := by
  pointwise [local1, k0_pay10, k0_pay8, k0_pay9]
  have hw : ∀ p q r : BitVec 1, IntOp.ori (IntOp.ori p q) r = IntOp.ori p (IntOp.ori q r) := by decide
  rw [hw (IntOp.ori _ _), rim_word, rim_word]
  by_cases ha : a.val = rim i <;> by_cases hb : b.val = rim j <;> simp [ha, hb, IntOp.ori, Scalar.select]

/-- Adding the row at an entry: off the edge row nothing changes, on it the weighted entry of the row is added, except on the border. -/
theorem addRow_at (i j : Bool) (y : Vec Ideal S128x128 .f32) (r : Vec Ideal S1x128 .f32) (a b : Fin 128) : addRow i j y r (ix2 a b)
    = if a.val = edge i then y (ix2 a b) + (if b.val = rim j then 0 else wE * r (ix2 0 b)) else y (ix2 a b) := by
  refine (congrFun (View.write_whole_slice_unit cc0_stg1_0 _ _ (edge_row i) _ _) _).trans ?_
  pointwise [k0_pay14, k0_pay13, k0_pay11, k0_pay12, View.readAt_eq_ld, View.ld_unit]
  rw [rim_word]
  by_cases ha : a.val = edge i
  · rw [dif_pos (by intro k; change Fin 2 at k; fin_cases k <;> [exact (by omega : edge i ≤ a.val ∧ a.val < edge i + 1); exact (by omega : 0 ≤ b.val ∧ b.val < 0 + 128)]), if_pos ha]
    congr 1
    · exact congrArg (fun p => y (ix2 p b)) (Fin.ext (by show edge i + (a.val - edge i) = a.val; omega))
    · by_cases hb : b.val = rim j <;> simp [hb, IntOp.xori, Scalar.select]
      congr 2; congr 1; exact Fin.ext (by simp [ha])
  · rw [dif_neg (fun h => ha (by have := h (0 : Fin 2); change edge i ≤ a.val ∧ a.val < edge i + 1 at this; omega)), if_neg ha]

/-- Adding the column at an entry: off the edge column nothing changes, on it the weighted entry of the column is added, except on the border. -/
theorem addCol_at (i j : Bool) (y : Vec Ideal S128x128 .f32) (k : Vec Ideal S128x1 .f32) (a b : Fin 128) : addCol i j y k (ix2 a b)
    = if b.val = edge j then y (ix2 a b) + (if a.val = rim i then 0 else wE * k (ix2 a 0)) else y (ix2 a b) := by
  refine (congrFun (View.write_whole_slice_unit cc0_stg1_0 _ _ (edge_col j) _ _) _).trans ?_
  pointwise [k0_pay2, k0_pay1, k0_pay16, k0_pay17, View.readAt_eq_ld, View.ld_unit]
  rw [rim_word]
  by_cases hb : b.val = edge j
  · rw [dif_pos (by intro k; change Fin 2 at k; fin_cases k <;> [exact (by omega : 0 ≤ a.val ∧ a.val < 0 + 128); exact (by omega : edge j ≤ b.val ∧ b.val < edge j + 1)]), if_pos hb]
    congr 1
    · exact congrArg (fun p => y (ix2 a p)) (Fin.ext (by show edge j + (b.val - edge j) = b.val; omega))
    · by_cases ha : a.val = rim i <;> simp [ha, IntOp.xori, Scalar.select]
      congr 2; congr 1; exact Fin.ext (by simp [hb])
  · rw [dif_neg (fun h => hb (by have := h (1 : Fin 2); change edge j ≤ b.val ∧ b.val < edge j + 1 at this; omega)), if_neg hb]

/-- What is sent, read at an entry: the block's edge. -/
theorem sentRow_at (i : Bool) (x : Vec Ideal S128x128 .f32) (b : Fin 128) :
    k0_pay4 (xM.view.readAt (Elt Ideal) (rowR i).toLoadRect x) (ix2 0 b) = x (ix2 ⟨edge i, by cases i <;> decide⟩ b) := by
  pointwise [k0_pay4, View.readAt_eq_ld, View.ld_unit]
  rfl
/-- The same for the column. -/
theorem sentCol_at (j : Bool) (x : Vec Ideal S128x128 .f32) (a : Fin 128) :
    k0_pay6 (xM.view.readAt (Elt Ideal) (colR j).toLoadRect x) (ix2 a 0) = x (ix2 a ⟨edge j, by cases j <;> decide⟩) := by
  pointwise [k0_pay6, View.readAt_eq_ld, View.ld_unit]
  rfl

/-! ## Against the whole array -/

/-- Where a device's block begins along an axis. -/
def base : Bool → ℕ | false => 0 | true => 128
/-- The line beyond a block's inner edge. -/
def beyond : Bool → ℕ | false => 128 | true => 127

/-- The weight of the four neighbours distributes over sums. -/
theorem wE_add (x y : EReal) : wE * (x + y) = wE * x + wE * y := by
  have h : wE = ((1 / 8 : ℝ) : EReal) := by simp [wE, Ideal.ofBits, Ideal.ieee, -EReal.coe_mul]; norm_num
  rw [h]
  exact EReal.left_distrib_of_nonneg_of_ne_top (by exact_mod_cast (by norm_num : (0 : ℝ) ≤ 1 / 8)) (EReal.coe_ne_top _) x y

/-- Along one axis, off the border: the two neighbours inside the block, and the one beyond its inner edge where the entry is on it. -/
theorem two_sides (i : Bool) (a : Fin 128) (f : ℕ → EReal) (h : a.val ≠ rim i) :
    wE * ((if a.val < 1 then 0 else f (base i + (a.val - 1))) + if a.val < 127 then f (base i + (1 + a.val)) else 0) + (if a.val = edge i then wE * f (beyond i) else 0)
      = wE * f (base i + a.val - 1) + wE * f (base i + a.val + 1) := by
  have hz : wE * 0 = 0 := mul_zero _
  rw [wE_add]
  cases i
  · have h0 : ¬ a.val < 1 := by simp only [rim] at h; omega
    by_cases h1 : a.val = 127
    · simp [h1, base, beyond]
    · have h2 : a.val < 127 := by omega
      rw [if_neg h0, if_pos h2, if_neg h1, add_zero]
      congr 3 <;> simp only [base] <;> omega
  · have h0 : a.val < 127 := by simp only [rim] at h; omega
    by_cases h1 : a.val = 0
    · simp [h1, base, beyond, add_comm]
    · have h2 : ¬ a.val < 1 := by omega
      rw [if_neg h2, if_pos h0, if_neg h1, add_zero]
      congr 3 <;> simp only [base] <;> omega

/-- The five-point sum of a function on the whole array's places, the identity on the border. -/
def fivePoint (G : ℕ → ℕ → EReal) (p q : ℕ) : EReal :=
  if p = 0 ∨ p = 255 ∨ q = 0 ∨ q = 255 then G p q
  else wH * G p q + wE * G (p - 1) q + wE * G (p + 1) q + wE * G p (q - 1) + wE * G p (q + 1)

/-- A block's output is the block of the five-point sum, if the block and the two edges are the whole array's. -/
theorem stencil_at (i j : Bool) (x : Vec Ideal S128x128 .f32) (r : Vec Ideal S1x128 .f32) (k : Vec Ideal S128x1 .f32) (G : ℕ → ℕ → EReal)
    (hx : ∀ a b : Fin 128, x (ix2 a b) = G (base i + a) (base j + b)) (hr : ∀ b : Fin 128, r (ix2 0 b) = G (beyond i) (base j + b))
    (hk : ∀ a : Fin 128, k (ix2 a 0) = G (base i + a) (beyond j)) (a b : Fin 128) :
    stencil i j x r k (ix2 a b) = fivePoint G (base i + a) (base j + b) := by
  have hrim : ∀ (i : Bool) (a : Fin 128), a.val = rim i ↔ base i + a.val = 0 ∨ base i + a.val = 255 := by
    intro i a; cases i <;> simp only [rim, base] <;> omega
  have hne : ∀ (i : Bool) (a : Fin 128), a.val = rim i → a.val ≠ edge i := by
    intro i a h; rw [h]; cases i <;> decide
  unfold stencil
  rw [addCol_at, addRow_at, local1_at, hr, hk]
  have hs : ∀ (c : Prop) [Decidable c] (u v : EReal), (if c then u + v else u) = u + if c then v else 0 := by
    intro c _ u v; split <;> simp
  simp only [hx, dite_eq_ite]
  rw [hs, hs]
  unfold fivePoint
  by_cases ha : a.val = rim i
  · have h1 := (hrim i a).1 ha
    rw [if_pos (Or.inl ha), if_neg (hne i a ha), if_pos ha, add_zero, ite_self, add_zero, if_pos (by tauto : base i + a.val = 0 ∨ base i + a.val = 255 ∨ base j + b.val = 0 ∨ base j + b.val = 255)]
  · by_cases hb : b.val = rim j
    · have h1 := (hrim j b).1 hb
      rw [if_pos (Or.inr hb), if_pos hb, if_neg (hne j b hb), add_zero, ite_self, add_zero, if_pos (by tauto : base i + a.val = 0 ∨ base i + a.val = 255 ∨ base j + b.val = 0 ∨ base j + b.val = 255)]
    · have h1 := mt (hrim i a).2 ha
      have h2 := mt (hrim j b).2 hb
      have t1 := two_sides i a (fun p => G p (base j + b.val)) ha
      have t2 := two_sides j b (fun q => G (base i + a.val) q) hb
      have hsum : ∀ g n s w e u v : EReal, wH * g + wE * (n + s + w + e) + u + v = wH * g + (wE * (n + s) + u) + (wE * (w + e) + v) := by
        intro g n s w e u v
        rw [add_assoc (n + s) w e, wE_add (n + s)]
        abel
      rw [if_neg (by tauto : ¬ (a.val = rim i ∨ b.val = rim j)), if_neg ha, if_neg hb,
        if_neg (by tauto : ¬ (base i + a.val = 0 ∨ base i + a.val = 255 ∨ base j + b.val = 0 ∨ base j + b.val = 255)), hsum]
      exact (congrArg₂ (fun u v => wH * G (base i + a.val) (base j + b.val) + u + v) t1 t2).trans (by simp only [add_assoc])

end Cert.KernelIdeal.Halo

end
-- ==== Proof.Reference.lean ====
/-
# The reference, entry by entry

The reference's result read at an entry over the extended reals: the five-point sum off the border, the argument on it.
-/
module

public import proofs.«01_k».proof.Proof.Value
public import proofs.«01_k».proof.Proof.Gen.ReferenceIdeal.Run
public import Idealize.ShloMosaic.Lib.Routing.OpsSet

@[expose] public section

noncomputable section

namespace Cert.ReferenceIdeal.Five

open Cert.ReferenceIdeal Cert.ReferenceIdeal.Gen
open Idealize.ShloMosaic Idealize.ShloMosaic.TcCoe
open Cert.KernelIdeal.Halo (wH wE fivePoint)

/-- Where the interior's sums go: one row down and one column across. -/
abbrev corner : IVec S2 32 := concatenate S2 0 [⟨S1, (broadcastInDim S1 ![] bcast_S_S1 (constantI S_ 32 1#32))⟩, ⟨S1, (broadcastInDim S1 ![] bcast_S_S1 (constantI S_ 32 1#32))⟩] concatenates_S1_S1_S2_d0

/-- Both coordinates are 1. -/
theorem corner_at (k : S2.Idx) : corner k = 1#32 := by
  pointwise [corner]
  split <;> rfl

/-- The sums are placed from 1 on along both axes, -/
theorem start_one (k : S254x254.Idx) (a : Fin 2) : scatter_S256x256_S2_S254x254_01_n_01_0.start k corner a = 1 := by
  unfold ScatterDims.start
  rw [dif_pos (by fin_cases a <;> decide), corner_at]; rfl

/-- and within them each has its own place. -/
theorem window_eq (k : S254x254.Idx) (a : Fin 2) : scatter_S256x256_S2_S254x254_01_n_01_0.window k a = (k a).val := by
  fin_cases a <;> rfl

/-- An interior sum lands one row down and one column across from its own place. -/
theorem lands (k : S254x254.Idx) (p q : Fin 256) :
    scatter_S256x256_S2_S254x254_01_n_01_0.resultIdx? k corner = some (ix2 p q) ↔ (k 0).val + 1 = p.val ∧ (k 1).val + 1 = q.val := by
  refine (Routing.resultIdx?_ix2 _ k corner p q).trans ?_
  rw [start_one k 0, start_one k 1, window_eq k 0, window_eq k 1]
  omega

/-- The sums over the interior. -/
abbrev sums (X : FVec Ideal S256x256 .f32) : FVec Ideal S254x254 .f32 :=
  (addf (addf (addf (addf (mulf (broadcastInDim S254x254 ![] bcast_S_S254x254 (constant S_ .f32 0x3F000000#32)) (extractStridedSlice S254x254 ![1, 1] X slices_S256x256_S254x254_1_1)) (mulf (broadcastInDim S254x254 ![] bcast_S_S254x254 (constant S_ .f32 0x3E000000#32)) (extractStridedSlice S254x254 ![0, 1] X slices_S256x256_S254x254_0_1))) (mulf (broadcastInDim S254x254 ![] bcast_S_S254x254 (constant S_ .f32 0x3E000000#32)) (extractStridedSlice S254x254 ![2, 1] X slices_S256x256_S254x254_2_1))) (mulf (broadcastInDim S254x254 ![] bcast_S_S254x254 (constant S_ .f32 0x3E000000#32)) (extractStridedSlice S254x254 ![1, 0] X slices_S256x256_S254x254_1_0))) (mulf (broadcastInDim S254x254 ![] bcast_S_S254x254 (constant S_ .f32 0x3E000000#32)) (extractStridedSlice S254x254 ![1, 2] X slices_S256x256_S254x254_1_2)))

/-- The reference's result. -/
def value (X : FVec Ideal S256x256 .f32) : FVec Ideal S256x256 .f32 :=
  Host.scatter scatter_S256x256_S2_S254x254_01_n_01_0 (fun _ b => b) X corner (sums X)

/-- An array as a function on all places, zero outside. -/
def field (X : FVec Ideal S256x256 .f32) (p q : ℕ) : EReal := if h : p < 256 ∧ q < 256 then X (ix2 ⟨p, h.1⟩ ⟨q, h.2⟩) else 0
/-- On the array's places it is the array. -/
theorem field_at (X : FVec Ideal S256x256 .f32) (p q : Fin 256) : field X p q = X (ix2 p q) := dif_pos ⟨p.isLt, q.isLt⟩

/-- An interior sum in terms of the array's entries. -/
theorem sums_at (X : FVec Ideal S256x256 .f32) (k : S254x254.Idx) : sums X k
    = wH * field X ((k 0).val + 1) ((k 1).val + 1) + wE * field X (k 0).val ((k 1).val + 1) + wE * field X ((k 0).val + 1 + 1) ((k 1).val + 1)
      + wE * field X ((k 0).val + 1) (k 1).val + wE * field X ((k 0).val + 1) ((k 1).val + 1 + 1) := by
  have h0 : (k 0).val < 254 := (k 0).isLt
  have h1 : (k 1).val < 254 := (k 1).isLt
  pointwise [sums]
  unfold field
  rw [dif_pos (by omega), dif_pos (by omega), dif_pos (by omega), dif_pos (by omega), dif_pos (by omega)]
  simp only [Nat.add_comm 1, Nat.add_comm 2, Nat.add_assoc, Nat.reduceAdd]

/-- The reference's result at an entry is the five-point sum of the argument. -/
theorem value_at (X : FVec Ideal S256x256 .f32) (p q : Fin 256) : value X (ix2 p q) = fivePoint (field X) p q := by
  unfold value fivePoint
  by_cases h : p.val = 0 ∨ p.val = 255 ∨ q.val = 0 ∨ q.val = 255
  · rw [if_pos h, field_at]
    refine Routing.scatter_set_miss _ X corner _ _ fun k hk => ?_
    have h0 : (k 0).val < 254 := (k 0).isLt
    have h1 : (k 1).val < 254 := (k 1).isLt
    have := (lands k p q).1 hk
    omega
  · rw [if_neg h]
    have hp := p.isLt
    have hq := q.isLt
    have key : ∀ k, scatter_S256x256_S2_S254x254_01_n_01_0.resultIdx? k corner = some (ix2 p q) → sums X k
        = wH * field X p q + wE * field X (p.val - 1) q + wE * field X (p.val + 1) q + wE * field X p (q.val - 1) + wE * field X p (q.val + 1) := by
      intro k hk
      have hk := (lands k p q).1 hk
      rw [sums_at, ← hk.1, ← hk.2]
      rfl
    exact Routing.scatter_set_hit _ X corner _ _ _ key (ix2 ⟨p.val - 1, by omega⟩ ⟨q.val - 1, by omega⟩)
      ((lands _ p q).2 ⟨by show p.val - 1 + 1 = p.val; omega, by show q.val - 1 + 1 = q.val; omega⟩)

end Cert.ReferenceIdeal.Five

end
-- ==== Proof.Algebra.lean ====
/-
# The value claim

Each device's output is its block of the reference's result: the device's block, and the two edges that its neighbours sent,
are places of the one whole array, and there both programs compute the five-point sum.
-/
module

public import proofs.«01_k».proof.Proof.Run
public import proofs.«01_k».proof.Proof.Reference
public import proofs.«01_k».proof.Defs

@[expose] public section

noncomputable section

namespace Cert.Proof

open Idealize.ShloMosaic Idealize.SL.Sem
open Cert.KernelIdeal.Halo Cert.ReferenceIdeal.Five

attribute [local instance] Cert.KernelIdeal.Gen.facts Cert.ReferenceIdeal.Gen.facts

/-- Device `c`'s block of a whole array. -/
abbrev part (c : Dev Cert.KernelIdeal.nD) (X : FVec Ideal ⟨2, ![256, 256]⟩ .f32) : FVec Ideal ⟨2, ![128, 128]⟩ .f32 :=
  Layout.blockN ⟨2, ![128, 128]⟩ ⟨2, ![256, 256]⟩ (Layout.meshBlock [2, 2] ![[0], [1]] c) X

/-- Where a device's block begins. -/
theorem begins (c : Dev Cert.KernelIdeal.nD) : Layout.meshLin [2, 2] c.val [0] * 128 = base (low c) ∧ Layout.meshLin [2, 2] c.val [1] * 128 = base (right c) := by
  revert c; decide

/-- A block's places lie in the whole array. -/
theorem base_lt (i : Bool) (a : Fin 128) : base i + a.val < 256 := by cases i <;> simp only [base] <;> omega

/-- An entry of a block is the whole array's entry at the block's place; -/
theorem part_place (c : Dev Cert.KernelIdeal.nD) (X : FVec Ideal ⟨2, ![256, 256]⟩ .f32) (a b : Fin 128) :
    part c X (ix2 a b) = X (ix2 ⟨base (low c) + a, base_lt _ a⟩ ⟨base (right c) + b, base_lt _ b⟩) := by
  refine congrArg X (funext fun k => Fin.ext ?_)
  fin_cases k
  · exact congrArg (· + a.val) (begins c).1
  · exact congrArg (· + b.val) (begins c).2
/-- so it is the array's entry, read as a function on all places. -/
theorem part_at (c : Dev Cert.KernelIdeal.nD) (X : FVec Ideal ⟨2, ![256, 256]⟩ .f32) (a b : Fin 128) :
    part c X (ix2 a b) = field X (base (low c) + a) (base (right c) + b) :=
  (part_place c X a b).trans (field_at X ⟨_, base_lt _ a⟩ ⟨_, base_lt _ b⟩).symm

/-- A neighbour is at the other place along its axis and at the same along the other. -/
theorem across (c : Dev Cert.KernelIdeal.nD) : (low (nb false c) = !low c ∧ right (nb false c) = right c) ∧ low (nb true c) = low c ∧ right (nb true c) = !right c := by
  revert c; decide
/-- The edge that a neighbour sends is the line beyond the receiver's inner edge. -/
theorem edge_beyond (i : Bool) : base (!i) + edge (!i) = beyond i := by cases i <;> rfl

variable (m : (ℓ : Loc Cert.KernelIdeal.nD Cert.KernelIdeal.τ Cert.KernelIdeal.sig) → Buf (Elt Ideal) ℓ) (g : Dev Cert.KernelIdeal.nD → PrngReg)
  (X : FVec Ideal ⟨2, ![256, 256]⟩ .f32)

/-- A device's output is its block of the reference's result. -/
theorem out_eq (h : ∀ c : Dev Cert.KernelIdeal.nD, blk m g c = part c X) (c : Dev Cert.KernelIdeal.nD) : outAt m g c = part c (value X) := by
  have hr : ∀ b : Fin 128, landed m g false c (ix2 0 b) = field X (beyond (low c)) (base (right c) + b) := by
    intro b
    refine (sentRow_at (low (nb false c)) (blk m g (nb false c)) b).trans ?_
    rw [h, part_at]
    show field X (base (low (nb false c)) + edge (low (nb false c))) (base (right (nb false c)) + b) = _
    rw [(across c).1.1, (across c).1.2, edge_beyond]
  have hk : ∀ a : Fin 128, landed m g true c (ix2 a 0) = field X (base (low c) + a) (beyond (right c)) := by
    intro a
    refine (sentCol_at (right (nb true c)) (blk m g (nb true c)) a).trans ?_
    rw [h, part_at]
    show field X (base (low (nb true c)) + a) (base (right (nb true c)) + edge (right (nb true c))) = _
    rw [(across c).2.1, (across c).2.2, edge_beyond]
  funext ι
  obtain ⟨a, b, rfl⟩ : ∃ a b : Fin 128, ι = ix2 a b := ⟨ι 0, ι 1, by funext k; fin_cases k <;> rfl⟩
  rw [part_place, value_at]
  exact stencil_at (low c) (right c) (blk m g c) _ _ (field X) (fun a b => by rw [h]; exact part_at c X a b) hr hk a b

/-- The value claim: from blocks of one array, the kernel's four outputs are the blocks of the reference's result on that array. -/
theorem algebraic : Cert.algebraic_KernelIdeal_ReferenceIdeal := by
  intro m g m' g' _ hagree
  refine ⟨value (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨(h.1 c).1.trans (out_eq m g _ (fun c => (blk_eq m g c).trans (hagree c)) c), (h.1 c).2⟩) (Cert.KernelIdeal.Halo.run m g)
  · exact (θ_run _ _ _).mono (fun _ h => h 0) (Cert.ReferenceIdeal.Value.run m' g')

end Cert.Proof

end
-- ==== Proof.lean ====
/-
# The five claims, put together

The program as printed, its idealization and the reference each run, keep their argument and leave every counter at zero; the
idealization is the program over the extended reals; and there its four outputs are the blocks of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The five claims. -/
theorem claim : Cert.Claim := ⟨Cert.Kernel.Gen.facts, Cert.KernelIdeal.Gen.facts, Cert.ReferenceIdeal.Gen.facts,
  frame_printed, frame_ideal, frame_reference, trivial, algebraic⟩

end Cert.Proof

end
